-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 512, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 512, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x4x64 : S_.BroadcastsInDim S2x128x4x64 (![] : Fin 0 → Fin S2x128x4x64.rank)

variable [Facts]

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S2x128x512 1 × IVec S512x256 1 × IVec S2x128x4x64 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_v4 : FVec F S512x256 .f32 := (extf .f32 · bitsLt_bf16_f32) main_arg1
  let main_v5 : FVec F S512x256 .f32 := Host.absf main_v4
  let main_cst_0 : FVec F S_ .f32 := constant S_ .f32 0x7F800000#32
  let main_v6 : FVec F S512x256 .f32 := broadcastInDim S512x256 ![] bcast_S_S512x256 main_cst_0
  let main_v7 : IVec S512x256 1 := cmpf .olt main_v5 main_v6
  let main_v8 : FVec F S2x128x4x64 .f32 := (extf .f32 · bitsLt_bf16_f32) main_arg2
  let main_v9 : FVec F S2x128x4x64 .f32 := Host.absf main_v8
  let main_cst_1 : FVec F S_ .f32 := constant S_ .f32 0x7F800000#32
  let main_v10 : FVec F S2x128x4x64 .f32 := broadcastInDim S2x128x4x64 ![] bcast_S_S2x128x4x64 main_cst_1
  let main_v11 : IVec S2x128x4x64 1 := cmpf .olt main_v9 main_v10
  (main_v3, main_v7, main_v11)
-- ==== Pre_scores_finite_ReferenceIdeal.lean ====
abbrev S2x512x512 : Shape := ⟨3, ![2, 512, 512]⟩
abbrev S512x256 : Shape := ⟨2, ![512, 256]⟩
abbrev S2x512x4x64 : Shape := ⟨4, ![2, 512, 4, 64]⟩
abbrev S256x512 : Shape := ⟨2, ![256, 512]⟩
abbrev S_ : Shape := ⟨0, ![]⟩

class Facts : Prop where
  bitsLt_bf16_f32 : FTy.bits .bf16 < FTy.bits .f32
  bcast_S_S2x512x512 : S_.BroadcastsInDim S2x512x512 (![] : Fin 0 → Fin S2x512x512.rank)
  bcast_S_S512x256 : S_.BroadcastsInDim S512x256 (![] : Fin 0 → Fin S512x256.rank)
  bcast_S_S2x512x4x64 : S_.BroadcastsInDim S2x512x4x64 (![] : Fin 0 → Fin S2x512x4x64.rank)

variable [Facts]

def fn {F : FTy → Type} [FloatOps F] (main_arg0 : FVec F S2x512x512 .bf16) (main_arg1 : FVec F S512x256 .bf16) (main_arg2 : FVec F S2x512x4x64 .bf16) (main_arg3 : FVec F S2x512x4x64 .bf16) (main_arg4 : FVec F S256x512 .bf16) : IVec S2x512x512 1 × IVec S512x256 1 × IVec S2x512x4x64 1 :=
  let main_v0 : FVec F S2x512x512 .f32 := (extf .f32 · bitsLt_bf16_f32) main_arg0
  let main_v1 : FVec F S2x512x512 .f32 := Host.absf main_v0
  let main_cst : FVec F S_ .f32 := constant S_ .f32 0x7F800000#32
  let main_v2 : FVec F S2x512x512 .f32 := broadcastInDim S2x512x512 ![] bcast_S_S2x512x512 main_cst
  let main_v3 : IVec S2x512x512 1 := cmpf .olt main_v1 main_v2
  let main_v4 : FVec F S512x256 .f32 := (extf .f32 · bitsLt_bf16_f32) main_arg1
  let main_v5 : FVec F S512x256 .f32 := Host.absf main_v4
  let main_cst_0 : FVec F S_ .f32 := constant S_ .f32 0x7F800000#32
  let main_v6 : FVec F S512x256 .f32 := broadcastInDim S512x256 ![] bcast_S_S512x256 main_cst_0
  let main_v7 : IVec S512x256 1 := cmpf .olt main_v5 main_v6
  let main_v8 : FVec F S2x512x4x64 .f32 := (extf .f32 · bitsLt_bf16_f32) main_arg2
  let main_v9 : FVec F S2x512x4x64 .f32 := Host.absf main_v8
  let main_cst_1 : FVec F S_ .f32 := constant S_ .f32 0x7F800000#32
  let main_v10 : FVec F S2x512x4x64 .f32 := broadcastInDim S2x512x4x64 ![] bcast_S_S2x512x4x64 main_cst_1
  let main_v11 : IVec S2x512x4x64 1 := cmpf .olt main_v9 main_v10
  (main_v3, main_v7, main_v11)
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S2x512x256 : Shape := ⟨3, ![2, 512, 256]⟩
abbrev S3 : Shape := ⟨1, ![3]⟩
abbrev S_ : Shape := ⟨0, ![]⟩
abbrev S2x128x256 : Shape := ⟨3, ![2, 128, 256]⟩
abbrev S1 : Shape := ⟨1, ![1]⟩
abbrev S1x128x512 : Shape := ⟨3, ![1, 128, 512]⟩
abbrev S128x512 : Shape := ⟨2, ![128, 512]⟩
abbrev S128x256 : Shape := ⟨2, ![128, 256]⟩
abbrev S128x128 : Shape := ⟨2, ![128, 128]⟩
abbrev S128x64 : Shape := ⟨2, ![128, 64]⟩
abbrev S128x1 : Shape := ⟨2, ![128, 1]⟩
abbrev S1x128x256 : Shape := ⟨3, ![1, 128, 256]⟩
abbrev S128 : Shape := ⟨1, ![128]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S2x512x256, .bf16⟩
  | .local _ .vmem, ⟨7, _⟩ => ⟨S2x512x256, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_5 : BitVec 32 := 1#32
  let v10 : BitVec 32 := Scalar.muli v4 c1_i32_5
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_7 : BitVec 32 := 1#32
  let v12 : BitVec 32 := Scalar.muli v6 c1_i32_7
  let v13 : BitVec 32 := Scalar.addi c0_i32_8 v12
  v13.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let c1_i32_10 : BitVec 32 := 1#32
  let v14 : BitVec 32 := Scalar.muli v8 c1_i32_10
  let v15 : BitVec 32 := Scalar.addi c0_i32_11 v14
  v15.toNat
def k0_off1 (d0 : Dev nD) : Fin 3 → Nat :=
  let c0_16 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let v19 : BitVec 32 := Scalar.muli v2 c128_i32
  let v20 : Index := Scalar.indexCast v19
  let c0_17 : Index := 0#32
  ![0, v20.toNat, 0]
def k0_off2 (d0 : Dev nD) : Fin 3 → Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_26 : BitVec 32 := 128#32
  let v33 : BitVec 32 := Scalar.muli v2 c128_i32_26
  let c0_i32_32 : BitVec 32 := 0#32
  ![0, v33.toNat, 0]
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_29 : BitVec 32 := 1#32
  let v34 : BitVec 32 := Scalar.muli v4 c1_i32_29
  let v35 : BitVec 32 := Scalar.addi c0_i32_30 v34
  v35.toNat
def k0_dev5 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_39 : BitVec 32 := 1#32
  let v44 : BitVec 32 := Scalar.muli v4 c1_i32_39
  let v45 : BitVec 32 := Scalar.addi c0_i32_40 v44
  v45.toNat
def k0_dev6 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_49 : BitVec 32 := 1#32
  let v54 : BitVec 32 := Scalar.muli v6 c1_i32_49
  let v55 : BitVec 32 := Scalar.addi c0_i32_50 v54
  v55.toNat
def k0_dev7 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_59 : BitVec 32 := 1#32
  let v64 : BitVec 32 := Scalar.muli v6 c1_i32_59
  let v65 : BitVec 32 := Scalar.addi c0_i32_60 v64
  v65.toNat
def k0_dev8 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let c1_i32_69 : BitVec 32 := 1#32
  let v74 : BitVec 32 := Scalar.muli v8 c1_i32_69
  let v75 : BitVec 32 := Scalar.addi c0_i32_70 v74
  v75.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let c1_i32_79 : BitVec 32 := 1#32
  let v84 : BitVec 32 := Scalar.muli v8 c1_i32_79
  let v85 : BitVec 32 := Scalar.addi c0_i32_80 v84
  v85.toNat
def k0_off3 (d0 : Dev nD) : Fin 3 → Nat :=
  let c0_116 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_115 : BitVec 32 := 128#32
  let v138 : BitVec 32 := Scalar.muli v2 c128_i32_115
  let v139 : Index := Scalar.indexCast v138
  let c0_117 : Index := 0#32
  ![0, v139.toNat, 0]
def k0_off4 (d0 : Dev nD) : Fin 3 → Nat :=
  let c1_142 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_141 : BitVec 32 := 128#32
  let v206 : BitVec 32 := Scalar.muli v2 c128_i32_141
  let v207 : Index := Scalar.indexCast v206
  let c0_143 : Index := 0#32
  ![1, v207.toNat, 0]
def k0_off5 (d0 : Dev nD) (c1_i32_1 : BitVec 32) : Fin 3 → Nat :=
  let c0_i32_175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c1_i32_1
  let c4_i32_2 : BitVec 32 := 4#32
  let v6 : BitVec 32 := Scalar.remsi v5 c4_i32_2
  let c128_i32_168 : BitVec 32 := 128#32
  let v275 : BitVec 32 := Scalar.muli v6 c128_i32_168
  let c0_i32_176 : BitVec 32 := 0#32
  ![0, v275.toNat, 0]
def k0_off6 (d0 : Dev nD) (c1_i32_1 : BitVec 32) : Fin 3 → Nat :=
  let c0_192 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c1_i32_1
  let c4_i32_2 : BitVec 32 := 4#32
  let v6 : BitVec 32 := Scalar.remsi v5 c4_i32_2
  let c128_i32_191 : BitVec 32 := 128#32
  let v303 : BitVec 32 := Scalar.muli v6 c128_i32_191
  let v304 : Index := Scalar.indexCast v303
  let c0_193 : Index := 0#32
  ![0, v304.toNat, 0]
def k0_off7 (d0 : Dev nD) (c1_i32_1 : BitVec 32) : Fin 3 → Nat :=
  let c1_218 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c1_i32_1
  let c4_i32_2 : BitVec 32 := 4#32
  let v6 : BitVec 32 := Scalar.remsi v5 c4_i32_2
  let c128_i32_217 : BitVec 32 := 128#32
  let v371 : BitVec 32 := Scalar.muli v6 c128_i32_217
  let v372 : Index := Scalar.indexCast v371
  let c0_219 : Index := 0#32
  ![1, v372.toNat, 0]
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x512 : Shape := ⟨3, ![2, 512, 512]⟩
abbrev S512x256 : Shape := ⟨2, ![512, 256]⟩
abbrev S2x512x4x64 : Shape := ⟨4, ![2, 512, 4, 64]⟩
abbrev S256x512 : Shape := ⟨2, ![256, 512]⟩
abbrev S2x512x256 : Shape := ⟨3, ![2, 512, 256]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S2x4x512x512 : Shape := ⟨4, ![2, 4, 512, 512]⟩
abbrev S1x1x512x512 : Shape := ⟨4, ![1, 1, 512, 512]⟩
abbrev S2x4x512 : Shape := ⟨3, ![2, 4, 512]⟩
abbrev S2x4x512x1 : Shape := ⟨4, ![2, 4, 512, 1]⟩
abbrev S1x1x512x1 : Shape := ⟨4, ![1, 1, 512, 1]⟩
abbrev S2x4x64x512 : Shape := ⟨4, ![2, 4, 64, 512]⟩

abbrev nBuf : Space → Nat
  | .hbm => 72
  | .vmem => 0
  | .smem => 0
  | _ => 0

abbrev bufTy : (tb : Table) → Fin (tcTables nBuf tb) → BufTy
  | .hbm, ⟨0, _⟩ => ⟨S2x512x512, .bf16⟩
  | .hbm, ⟨1, _⟩ => ⟨S512x256, .bf16⟩
  | .hbm, ⟨2, _⟩ => ⟨S2x512x4x64, .bf16⟩
  | .hbm, ⟨3, _⟩ => ⟨S2x512x4x64, .bf16⟩
  | .hbm, ⟨4, _⟩ => ⟨S256x512, .bf16⟩
  | .hbm, ⟨5, _⟩ => ⟨S2x512x512, .f32⟩
  | .hbm, ⟨6, _⟩ => ⟨S512x256, .f32⟩
  | .hbm, ⟨7, _⟩ => ⟨S2x512x4x64, .f32⟩
  | .hbm, ⟨8, _⟩ => ⟨S2x512x4x64, .f32⟩
  | .hbm, ⟨9, _⟩ => ⟨S256x512, .f32⟩
  | .hbm, ⟨10, _⟩ => ⟨S2x512x256, .f32⟩
  | .hbm, ⟨11, _⟩ => ⟨S2x512x4x64, .f32⟩
  | .hbm, ⟨12, _⟩ => ⟨S512, .i32⟩
  | .hbm, ⟨13, _⟩ => ⟨S512x1, .i32⟩
  | .hbm, ⟨14, _⟩ => ⟨S512, .i32⟩
  | .hbm, ⟨15, _⟩ => ⟨S1x512, .i32⟩
  | .hbm, ⟨16, _⟩ => ⟨S512x512, .i32⟩
  | .hbm, ⟨17, _⟩ => ⟨S512x512, .i32⟩
  | .hbm, ⟨18, _⟩ => ⟨S512x512, .i32⟩
  | .hbm, ⟨19, _⟩ => ⟨S512x512, .i32⟩
  | .hbm, ⟨20, _⟩ => ⟨S_, .i32⟩
  | .hbm, ⟨21, _⟩ => ⟨S512x512, .i32⟩
  | .hbm, ⟨22, _⟩ => ⟨S512x512, .i1⟩
  | .hbm, ⟨23, _⟩ => ⟨S_, .i32⟩
  | .hbm, ⟨24, _⟩ => ⟨S1x512, .i32⟩
  | .hbm, ⟨25, _⟩ => ⟨S1x512, .i1⟩
  | .hbm, ⟨26, _⟩ => ⟨S_, .i32⟩
  | .hbm, ⟨27, _⟩ => ⟨S512x1, .i32⟩
  | .hbm, ⟨28, _⟩ => ⟨S512x1, .i1⟩
  | .hbm, ⟨29, _⟩ => ⟨S512x512, .i1⟩
  | .hbm, ⟨30, _⟩ => ⟨S512x512, .i1⟩
  | .hbm, ⟨31, _⟩ => ⟨S512x512, .i1⟩
  | .hbm, ⟨32, _⟩ => ⟨S512x512, .i1⟩
  | .hbm, ⟨33, _⟩ => ⟨S2x4x512x512, .f32⟩
  | .hbm, ⟨34, _⟩ => ⟨S_, .f32⟩
  | .hbm, ⟨35, _⟩ => ⟨S2x4x512x512, .f32⟩
  | .hbm, ⟨36, _⟩ => ⟨S2x4x512x512, .f32⟩
  | .hbm, ⟨37, _⟩ => ⟨S1x1x512x512, .i1⟩
  | .hbm, ⟨38, _⟩ => ⟨S_, .f32⟩
  | .hbm, ⟨39, _⟩ => ⟨S_, .f32⟩
  | .hbm, ⟨40, _⟩ => ⟨S2x4x512x512, .i1⟩
  | .hbm, ⟨41, _⟩ => ⟨S2x4x512x512, .f32⟩
  | .hbm, ⟨42, _⟩ => ⟨S2x4x512x512, .f32⟩
  | .hbm, ⟨43, _⟩ => ⟨S_, .f32⟩
  | .hbm, ⟨44, _⟩ => ⟨S2x4x512, .f32⟩
  | .hbm, ⟨45, _⟩ => ⟨S2x4x512x1, .f32⟩
  | .hbm, ⟨46, _⟩ => ⟨S2x4x512x512, .f32⟩
  | .hbm, ⟨47, _⟩ => ⟨S2x4x512x512, .f32⟩
  | .hbm, ⟨48, _⟩ => ⟨S2x4x512x512, .f32⟩
  | .hbm, ⟨49, _⟩ => ⟨S_, .i1⟩
  | .hbm, ⟨50, _⟩ => ⟨S512, .i1⟩
  | .hbm, ⟨51, _⟩ => ⟨S1x1x512x1, .i1⟩
  | .hbm, ⟨52, _⟩ => ⟨S_, .f32⟩
  | .hbm, ⟨53, _⟩ => ⟨S2x4x512, .f32⟩
  | .hbm, ⟨54, _⟩ => ⟨S2x4x512x1, .f32⟩
  | .hbm, ⟨55, _⟩ => ⟨S_, .f32⟩
  | .hbm, ⟨56, _⟩ => ⟨S_, .f32⟩
  | .hbm, ⟨57, _⟩ => ⟨S2x4x512x1, .i1⟩
  | .hbm, ⟨58, _⟩ => ⟨S2x4x512x1, .f32⟩
  | .hbm, ⟨59, _⟩ => ⟨S2x4x512x1, .f32⟩
  | .hbm, ⟨60, _⟩ => ⟨S2x4x512x512, .f32⟩
  | .hbm, ⟨61, _⟩ => ⟨S2x4x512x512, .f32⟩
  | .hbm, ⟨62, _⟩ => ⟨S1x1x512x1, .i1⟩
  | .hbm, ⟨63, _⟩ => ⟨S_, .f32⟩
  | .hbm, ⟨64, _⟩ => ⟨S_, .f32⟩
  | .hbm, ⟨65, _⟩ => ⟨S2x4x512x512, .i1⟩
  | .hbm, ⟨66, _⟩ => ⟨S2x4x512x512, .f32⟩
  | .hbm, ⟨67, _⟩ => ⟨S2x4x512x512, .f32⟩
  | .hbm, ⟨68, _⟩ => ⟨S2x4x64x512, .f32⟩
  | .hbm, ⟨69, _⟩ => ⟨S2x512x4x64, .f32⟩
  | .hbm, ⟨70, _⟩ => ⟨S2x512x256, .f32⟩
  | .hbm, ⟨71, _⟩ => ⟨S2x512x512, .f32⟩
  | _, _ => ⟨S2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.IdealWire.lean ====
/-
# The exchange between the four devices: cells, slices, schedule

Every device copies its own block of rows of the two gathered arrays (keys and values) to the three
others.  Before it copies anything it hears from each of them, on the barrier semaphore, that they
have entered; that signal hands over the place the copy will land in.

* a barrier cell has three duties of one unit, one from each other device;
* a send cell has one duty, the share of the own block the copy read;
* a receive cell has one duty, the block that has landed.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.IdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter at zero. -/
def s₀ : MemSt nD τ sig (Elt F) := ⟨m, fun _ => 0, ρ⟩

/-! ## The devices -/

/-- The device copy `j` goes to: the left one, the right one, the opposite one. -/
def peer (j : Fin 3) (c : Dev nD) : Dev nD :=
  ⟨(c.val + (if j = 0 then 3 else if j = 1 then 1 else 2)) % 4, Nat.mod_lt _ (show 0 < 4 by decide)⟩

/-- The copy by which the receiver of copy `j` answers. -/
def back : Fin 3 → Fin 3 := fun j => if j = 0 then 1 else if j = 1 then 0 else 2

theorem back_back (j : Fin 3) : back (back j) = j := by revert j; decide
theorem peer_back (j : Fin 3) (c : Dev nD) : peer (back j) (peer j c) = c := by revert j c; decide
theorem back_peer (j : Fin 3) (c : Dev nD) : peer j (peer (back j) c) = c := by revert j c; decide
theorem peer_ne (j : Fin 3) (c : Dev nD) : peer j c ≠ c := by revert j c; decide
theorem peer_ne_peer {j j' : Fin 3} (h : j ≠ j') (c : Dev nD) : peer j c ≠ peer j' c := by revert j j' c; decide
/-- Every device is the own one or one of the three. -/
theorem dev_cases (p c : Dev nD) : p = c ∨ p = peer 0 c ∨ p = peer 1 c ∨ p = peer 2 c := by revert p c; decide

/-- The devices permuted by `peer j`. -/
def turn (j : Fin 3) : Dev nD ≃ Dev nD := ⟨peer j, peer (back j), peer_back j, back_peer j⟩

theorem dev1_eq (c : Dev nD) : (⟨k0_dev1 c, k0_dev1_lt c⟩ : Dev nD) = peer 0 c := Fin.ext (k0_dev1_eq c)
theorem dev2_eq (c : Dev nD) : (⟨k0_dev2 c, k0_dev2_lt c⟩ : Dev nD) = peer 1 c := Fin.ext (k0_dev2_eq c)
theorem dev3_eq (c : Dev nD) : (⟨k0_dev3 c, k0_dev3_lt c⟩ : Dev nD) = peer 2 c := Fin.ext (k0_dev3_eq c)
theorem dev4_eq (c : Dev nD) : (⟨k0_dev4 c, k0_dev4_lt c⟩ : Dev nD) = peer 0 c := Fin.ext (k0_dev4_eq c)
theorem dev5_eq (c : Dev nD) : (⟨k0_dev5 c, k0_dev5_lt c⟩ : Dev nD) = peer 0 c := Fin.ext (k0_dev5_eq c)
theorem dev6_eq (c : Dev nD) : (⟨k0_dev6 c, k0_dev6_lt c⟩ : Dev nD) = peer 1 c := Fin.ext (k0_dev6_eq c)
theorem dev7_eq (c : Dev nD) : (⟨k0_dev7 c, k0_dev7_lt c⟩ : Dev nD) = peer 1 c := Fin.ext (k0_dev7_eq c)
theorem dev8_eq (c : Dev nD) : (⟨k0_dev8 c, k0_dev8_lt c⟩ : Dev nD) = peer 2 c := Fin.ext (k0_dev8_eq c)
theorem dev9_eq (c : Dev nD) : (⟨k0_dev9 c, k0_dev9_lt c⟩ : Dev nD) = peer 2 c := Fin.ext (k0_dev9_eq c)

/-! ## The cells -/

abbrev barS : Sem sig := (SemArray.scalar (sig.barrier 0 rfl) : Sems sig S_).sem

/-- The kernel's own semaphores: 0–2 the sends and 3–5 the receives of the first array, 6–8 and 9–11
    those of the second. -/
def dsem (i : Fin 12) : DmaSem sig := (⟨6 + i.val, by have := i.isLt; show 6 + i.val < 18; omega⟩ : Fin 18)

abbrev barCell (c : Dev nD) : GSem nD τ sig := ((c : Thread nD τ), .reg barS)
abbrev xCell (c : Dev nD) (i : Fin 12) : GSem nD τ sig := ((c : Thread nD τ), .dma (dsem i))

/-- The kernel's own semaphores as the launch indexes them. -/
abbrev osem : Fin 12 → SemLoc sig := fun i => .dma (dsem i)
/-- All cells of the exchange: the barrier first. -/
abbrev csem : Option (Fin 12) → SemLoc sig := fun o => o.elim (.reg barS) osem
abbrev kcell (ck : Dev nD × Option (Fin 12)) : GSem nD τ sig := ((ck.1 : Thread nD τ), csem ck.2)

theorem ks0_eq : ((cc0_scratch2.slice (Rect.unit (s := S3) ![0] S1.size inb_S3_S1_0)).squeeze S_ squeezes_S1_S_).sem = dsem 0 := rfl
theorem ks1_eq : ((cc0_scratch2.slice (Rect.unit (s := S3) ![1] S1.size inb_S3_S1_1)).squeeze S_ squeezes_S1_S_).sem = dsem 1 := rfl
theorem ks2_eq : ((cc0_scratch2.slice (Rect.unit (s := S3) ![2] S1.size inb_S3_S1_2)).squeeze S_ squeezes_S1_S_).sem = dsem 2 := rfl
theorem kr0_eq : ((cc0_scratch3.slice (Rect.unit (s := S3) ![0] S1.size inb_S3_S1_0)).squeeze S_ squeezes_S1_S_).sem = dsem 3 := rfl
theorem kr1_eq : ((cc0_scratch3.slice (Rect.unit (s := S3) ![1] S1.size inb_S3_S1_1)).squeeze S_ squeezes_S1_S_).sem = dsem 4 := rfl
theorem kr2_eq : ((cc0_scratch3.slice (Rect.unit (s := S3) ![2] S1.size inb_S3_S1_2)).squeeze S_ squeezes_S1_S_).sem = dsem 5 := rfl
theorem vs0_eq : ((cc0_scratch4.slice (Rect.unit (s := S3) ![0] S1.size inb_S3_S1_0)).squeeze S_ squeezes_S1_S_).sem = dsem 6 := rfl
theorem vs1_eq : ((cc0_scratch4.slice (Rect.unit (s := S3) ![1] S1.size inb_S3_S1_1)).squeeze S_ squeezes_S1_S_).sem = dsem 7 := rfl
theorem vs2_eq : ((cc0_scratch4.slice (Rect.unit (s := S3) ![2] S1.size inb_S3_S1_2)).squeeze S_ squeezes_S1_S_).sem = dsem 8 := rfl
theorem vr0_eq : ((cc0_scratch5.slice (Rect.unit (s := S3) ![0] S1.size inb_S3_S1_0)).squeeze S_ squeezes_S1_S_).sem = dsem 9 := rfl
theorem vr1_eq : ((cc0_scratch5.slice (Rect.unit (s := S3) ![1] S1.size inb_S3_S1_1)).squeeze S_ squeezes_S1_S_).sem = dsem 10 := rfl
theorem vr2_eq : ((cc0_scratch5.slice (Rect.unit (s := S3) ![2] S1.size inb_S3_S1_2)).squeeze S_ squeezes_S1_S_).sem = dsem 11 := rfl

/-! ## The slices -/

abbrev kM : Memref sig .tc .vmem S2x512x256 .bf16 := Memref.whole cc0_scratch0
abbrev vM : Memref sig .tc .vmem S2x512x256 .bf16 := Memref.whole cc0_scratch1

/-- Block `p` of the rows. -/
abbrev blkR (p : Dev nD) : Rect S2x512x256 := Rect.unit (s := S2x512x256) (k0_off2 p) S2x128x256.size (k0_off2_inb p)
abbrev kSl (p : Dev nD) : Memref sig .tc .vmem S2x128x256 .bf16 := kM.slice (blkR p) (fun _ => rfl)
abbrev vSl (p : Dev nD) : Memref sig .tc .vmem S2x128x256 .bf16 := vM.slice (blkR p) (fun _ => rfl)

abbrev N : ℕ := (kSl 0).view.dmaCredit
theorem N_pos : 0 < N := View.dmaCredit_pos _ (by decide)

/-- The contents of a gathered array. -/
abbrev Full (F : FTy → Type) : Type := S2x512x256.Idx → Elt F .bf16

/-- Block `p` of the first array on device `c`, at share `q`, holding `f`. -/
def kPts (c p : Dev nD) (q : PosShare TreeShare) (f : Full F) : sProp 𝕄 :=
  (kSl p).view.loc (c : Thread nD τ) ↦[(kSl p).view.set]{q} f
def vPts (c p : Dev nD) (q : PosShare TreeShare) (f : Full F) : sProp 𝕄 :=
  (vSl p).view.loc (c : Thread nD τ) ↦[(vSl p).view.set]{q} f

instance kPts_storable (c p : Dev nD) (q) (f : Full F) : BI.Storable (upEmb : UEmb _ 𝕄) (kPts c p q f) := by unfold kPts; infer_instance
instance vPts_storable (c p : Dev nD) (q) (f : Full F) : BI.Storable (upEmb : UEmb _ 𝕄) (vPts c p q f) := by unfold vPts; infer_instance

/-- The device whose block a row lies in, and the row's place within the block. -/
def rowDev (i : S2x512x256.Idx) : Dev nD := (⟨(i 1).val / 128, by have h : (i 1).val < 512 := (i 1).isLt; omega⟩ : Fin 4)
def rowIdx (i : S2x512x256.Idx) : S2x128x256.Idx := fun a => match a with
  | ⟨0, _⟩ => (⟨(i 0).val, (i 0).isLt⟩ : Fin 2)
  | ⟨1, _⟩ => (⟨(i 1).val % 128, Nat.mod_lt _ (by decide)⟩ : Fin 128)
  | ⟨2, _⟩ => (⟨(i 2).val, (i 2).isLt⟩ : Fin 256)

theorem mem_blkR (p : Dev nD) (i : S2x512x256.Idx) : i ∈ (blkR p).set ↔ rowDev i = p := by
  rw [Rect.mem_set_unit, k0_off2_eq]
  have h0 : (i 0).val < 2 := (i 0).isLt
  have h1 : (i 1).val < 512 := (i 1).isLt
  have h2 : (i 2).val < 256 := (i 2).isLt
  constructor
  · intro h
    have e : 128 * p.val ≤ (i 1).val ∧ (i 1).val < 128 * p.val + 128 := h 1
    refine Fin.ext ?_
    show (i 1).val / 128 = p.val
    omega
  · rintro rfl a
    fin_cases a
    · show 0 ≤ (i 0).val ∧ (i 0).val < 0 + 2
      omega
    · show 128 * ((i 1).val / 128) ≤ (i 1).val ∧ (i 1).val < 128 * ((i 1).val / 128) + 128
      omega
    · show 0 ≤ (i 2).val ∧ (i 2).val < 0 + 256
      omega

theorem kSl_set (p : Dev nD) : (kSl p).view.set = (blkR p).set := View.set_slice_whole _ _
theorem vSl_set (p : Dev nD) : (vSl p).view.set = (blkR p).set := View.set_slice_whole _ _

theorem blk_disjoint {p q : Dev nD} (h : p ≠ q) : Disjoint (blkR p).set (blkR q).set :=
  Finset.disjoint_left.mpr fun i hp hq => h ((mem_blkR p i).mp hp ▸ (mem_blkR q i).mp hq)

/-- The place of an element of block `p`. -/
theorem rowDev_idx (p : Dev nD) (x : S2x128x256.Idx) : rowDev ((blkR p).idx x) = p :=
  (mem_blkR p _).mp ((blkR p).idx_mem x)
theorem rowIdx_idx (p : Dev nD) (x : S2x128x256.Idx) : rowIdx ((blkR p).idx x) = x := by
  have hx : (x 1).val < 128 := (x 1).isLt
  have e := k0_off2_eq p
  have key : ∀ a, (((blkR p).idx x) a).val = (![0, 128 * p.val, 0] : Fin 3 → ℕ) a + 1 * (x a).val := fun a => by
    show k0_off2 p a + 1 * (x a).val = _; rw [e]
  funext a
  fin_cases a
  · refine Fin.ext ((key 0).trans ?_); show 0 + 1 * (x 0).val = (x 0).val; omega
  · refine Fin.ext ?_
    show (((blkR p).idx x) 1).val % 128 = (x 1).val
    rw [key 1]; show (128 * p.val + 1 * (x 1).val) % 128 = _; omega
  · refine Fin.ext ((key 2).trans ?_); show 0 + 1 * (x 2).val = (x 2).val; omega

/-! ## Contents -/

/-- The staged windows on device `c`: its rows of `x`, the two weights, its rows of keys and values. -/
def xS (c : Dev nD) : (cc0_stg0_0 : Ref sig .tc).ty.Contents (Elt F) :=
  (win0_0.blk (0 : Fin 1)).view.read (Elt F) ((s₀ m ρ).mem ((c : Thread nD τ).loc main_arg0))
def wqS (c : Dev nD) : (cc0_stg1_0 : Ref sig .tc).ty.Contents (Elt F) :=
  (win0_1.blk (0 : Fin 1)).view.read (Elt F) ((s₀ m ρ).mem ((c : Thread nD τ).loc main_arg1))
def kS (c : Dev nD) : (cc0_stg2_0 : Ref sig .tc).ty.Contents (Elt F) :=
  (win0_2.blk (0 : Fin 1)).view.read (Elt F) ((s₀ m ρ).mem ((c : Thread nD τ).loc main_arg2))
def vS (c : Dev nD) : (cc0_stg3_0 : Ref sig .tc).ty.Contents (Elt F) :=
  (win0_3.blk (0 : Fin 1)).view.read (Elt F) ((s₀ m ρ).mem ((c : Thread nD τ).loc main_arg3))
def woS (c : Dev nD) : (cc0_stg4_0 : Ref sig .tc).ty.Contents (Elt F) :=
  (win0_4.blk (0 : Fin 1)).view.read (Elt F) ((s₀ m ρ).mem ((c : Thread nD τ).loc main_arg4))

/-- The gathered arrays: block `p` of the rows is what device `p` stores. -/
def kG : Full F := fun i => k0_pay1 (kS m ρ (rowDev i)) (rowIdx i)
def vG : Full F := fun i => k0_pay2 (vS m ρ (rowDev i)) (rowIdx i)

/-! ## The schedule -/

/-- What the barrier duty `j` of device `p` hands it: block `p` of both arrays on the device its copy `j` goes to. -/
def barPay (p : Dev nD) (j : Fin 3) : sProp 𝕄 :=
  iprop((∃ f : Full F, kPts (peer j p) p fullShare f) ∗ ∃ f : Full F, vPts (peer j p) p fullShare f)

/-- The four shares of the own block: one for each copy, one to read by. -/
def shr : Fin 4 → PosShare TreeShare := fun
  | 0 => fullShare.left.left | 1 => fullShare.left.right | 2 => fullShare.right.left | 3 => fullShare.right.right

def xPay (c : Dev nD) : Fin 12 → sProp 𝕄 := fun
  | 0 => kPts c c (shr 0) (kG m ρ) | 1 => kPts c c (shr 1) (kG m ρ) | 2 => kPts c c (shr 2) (kG m ρ)
  | 3 => kPts c (peer 1 c) fullShare (kG m ρ) | 4 => kPts c (peer 0 c) fullShare (kG m ρ) | 5 => kPts c (peer 2 c) fullShare (kG m ρ)
  | 6 => vPts c c (shr 0) (vG m ρ) | 7 => vPts c c (shr 1) (vG m ρ) | 8 => vPts c c (shr 2) (vG m ρ)
  | 9 => vPts c (peer 1 c) fullShare (vG m ρ) | 10 => vPts c (peer 0 c) fullShare (vG m ρ) | 11 => vPts c (peer 2 c) fullShare (vG m ρ)

instance barPay_storable (p : Dev nD) (j) : BI.Storable (upEmb : UEmb _ 𝕄) (barPay (F := F) p j) := by unfold barPay; infer_instance
instance xPay_storable (c : Dev nD) (i : Fin 12) : BI.Storable (upEmb : UEmb _ 𝕄) (xPay m ρ c i) := by
  fin_cases i <;> dsimp only [xPay] <;> infer_instance

/-- The own semaphore a DMA semaphore is, if it is one. -/
def xOf (s : DmaSem sig) : Option (Fin 12) :=
  if h : 6 ≤ s.val then some ⟨s.val - 6, by have h2 : s.val < 18 := s.isLt; omega⟩ else none
theorem xOf_dsem (i : Fin 12) : xOf (dsem i) = some i := by revert i; decide

def sched : Rounds.Schedule (GSem nD τ sig) (Fin 3) 𝕄 where
  duties g r := if r = 0 ∧ g.1.2 = .tc then (match g.2 with | .reg _ => Finset.univ | .dma s => if 6 ≤ s.val then {0} else ∅) else ∅
  unitless _ := False
  amount g _ _ := match g.2 with | .reg _ => 1 | .dma _ => N
  payload g _ d := match g.2 with | .reg _ => barPay g.1.1 d | .dma s => (xOf s).elim iprop(emp) (xPay m ρ g.1.1)
  amount_pos g _ _ _ := by
    rcases g with ⟨t, s | s⟩
    · exact Nat.one_pos
    · exact N_pos

instance sched_payload_storable (g : GSem nD τ sig) (r : ℕ) (d : Fin 3) :
    BI.Storable (upEmb : UEmb _ 𝕄) ((sched (F := F) m ρ).payload g r d) := by
  rcases g with ⟨t, s | s⟩
  · show BI.Storable upEmb (barPay t.1 d); infer_instance
  · show BI.Storable upEmb ((xOf s).elim iprop(emp) (xPay m ρ t.1))
    rcases xOf s with _ | i
    · show BI.Storable upEmb iprop(emp); infer_instance
    · show BI.Storable upEmb (xPay m ρ t.1 i); infer_instance

section Sched
variable (c : Dev nD)

theorem duties_bar : (sched (F := F) m ρ).duties (barCell c) 0 = Finset.univ := by dsimp only [sched]; exact if_pos ⟨rfl, rfl⟩
theorem duties_x (i : Fin 12) : (sched (F := F) m ρ).duties (xCell c i) 0 = {0} := by
  dsimp only [sched]; rw [if_pos ⟨rfl, rfl⟩]; exact if_pos (Nat.le_add_right 6 i.val)
theorem duties_later (g : GSem nD τ sig) : ∀ r, 1 ≤ r → (sched (F := F) m ρ).duties g r = ∅ :=
  fun r hr => by dsimp only [sched]; exact if_neg fun h => by omega
theorem amount_bar (d : Fin 3) : (sched (F := F) m ρ).amount (barCell c) 0 d = 1 := rfl
theorem amount_x (i : Fin 12) (d : Fin 3) : (sched (F := F) m ρ).amount (xCell c i) 0 d = N := rfl
theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_x (i : Fin 12) : (sched (F := F) m ρ).expect (xCell c i) 0 = N := by
  unfold Schedule.expect Schedule.amountOf; rw [duties_x, Finset.sum_singleton, amount_x]
theorem payload_bar (d : Fin 3) : (sched (F := F) m ρ).payload (barCell c) 0 d = barPay c d := rfl
theorem payload_x (i : Fin 12) (d : Fin 3) : (sched (F := F) m ρ).payload (xCell c i) 0 d = xPay m ρ c i := by
  dsimp only [sched]; rw [xOf_dsem]; rfl
theorem rest_bar : bigSep ((sched (F := F) m ρ).duties (barCell c) 0 \ ∅) (fun d => (sched (F := F) m ρ).payload (barCell c) 0 d)
    = iprop(barPay (F := F) c 0 ∗ barPay (F := F) c 1 ∗ barPay (F := F) c 2) := by
  rw [Finset.sdiff_empty, duties_bar, bigSep_univ_eq_bigSepL [0, 1, 2] (by decide) (by decide), bigSepL_cons_cons, bigSepL_cons_cons, bigSepL_singleton]
  rfl
theorem rest_x (i : Fin 12) : bigSep ((sched (F := F) m ρ).duties (xCell c i) 0 \ ∅) (fun d => (sched (F := F) m ρ).payload (xCell c i) 0 d) = xPay m ρ c i := by
  rw [Finset.sdiff_empty, duties_x, bigSep_singleton, payload_x]

end Sched

/-! ## What each device owes; the levels -/

/-- The credit device `c` pays into receive cell `i` of the device copy `j` goes to. -/
abbrev due (c : Dev nD) (j : Fin 3) (i : Fin 12) : CellTallies nD τ sig Unit := tallyAt (xCell (peer j c) i) () N

/-- What is owed after the three signals and then each copy, the last copy innermost. -/
def O9 (_ : Dev nD) : CellTallies nD τ sig Unit := 0
def O8 (c : Dev nD) : CellTallies nD τ sig Unit := O9 c + due c 2 11
def O7 (c : Dev nD) : CellTallies nD τ sig Unit := O8 c + due c 2 5
def O6 (c : Dev nD) : CellTallies nD τ sig Unit := O7 c + due c 1 10
def O5 (c : Dev nD) : CellTallies nD τ sig Unit := O6 c + due c 1 4
def O4 (c : Dev nD) : CellTallies nD τ sig Unit := O5 c + due c 0 9
def O3 (c : Dev nD) : CellTallies nD τ sig Unit := O4 c + due c 0 3
def O2 (c : Dev nD) : CellTallies nD τ sig Unit := O3 c + tallyAt (barCell (peer 2 c)) () 1
def O1 (c : Dev nD) : CellTallies nD τ sig Unit := O2 c + tallyAt (barCell (peer 1 c)) () 1
def O0 (c : Dev nD) : CellTallies nD τ sig Unit := O1 c + tallyAt (barCell (peer 0 c)) () 1

def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma s => if (9 ≤ s.val ∧ s.val ≤ 11) ∨ 15 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl

/-- The receive cells. -/
def IsRecv (i : Fin 12) : Prop := i = 3 ∨ i = 4 ∨ i = 5 ∨ i = 9 ∨ i = 10 ∨ i = 11
theorem lv_recv (c : Dev nD) (i : Fin 12) (h : IsRecv i) (u : Unit) : lv (xCell c i) u = 2 := by
  rcases h with rfl | rfl | rfl | rfl | rfl | rfl <;> rfl

theorem tally_pos {g g' : GSem nD τ sig} {u : Unit} {n : ℕ} (h : 0 < tallyAt g' () n g u) : g = g' := by
  rw [tallyAt_apply] at h
  by_contra hn
  rw [if_neg (fun h' => hn h'.1)] at h
  exact Nat.lt_irrefl 0 h

theorem add_pos_or {A B : CellTallies nD τ sig Unit} {g : GSem nD τ sig} {u : Unit} (h : 0 < (A + B) g u) : 0 < A g u ∨ 0 < B g u := by
  rw [Pi.add_apply, Finsupp.add_apply] at h; omega

theorem O3_pos {c : Dev nD} {g : GSem nD τ sig} {u : Unit} (h : 0 < O3 c g u) : ∃ d i, IsRecv i ∧ g = xCell d i := by
  unfold O3 O4 O5 O6 O7 O8 O9 at h
  rcases add_pos_or h with h | h
  · rcases add_pos_or h with h | h
    · rcases add_pos_or h with h | h
      · rcases add_pos_or h with h | h
        · rcases add_pos_or h with h | h
          · rcases add_pos_or h with h | h
            · exact absurd h (Nat.lt_irrefl 0)
            · exact ⟨_, 11, by unfold IsRecv; decide, tally_pos h⟩
          · exact ⟨_, 5, by unfold IsRecv; decide, tally_pos h⟩
        · exact ⟨_, 10, by unfold IsRecv; decide, tally_pos h⟩
      · exact ⟨_, 4, by unfold IsRecv; decide, tally_pos h⟩
    · exact ⟨_, 9, by unfold IsRecv; decide, tally_pos h⟩
  · exact ⟨_, 3, by unfold IsRecv; decide, tally_pos h⟩

theorem O0_pos {c : Dev nD} {g : GSem nD τ sig} {u : Unit} (h : 0 < O0 c g u) :
    (∃ d i, IsRecv i ∧ g = xCell d i) ∨ ∃ d, g = barCell d := by
  unfold O0 O1 O2 at h
  rcases add_pos_or h with h | h
  · rcases add_pos_or h with h | h
    · rcases add_pos_or h with h | h
      · exact .inl (O3_pos h)
      · exact .inr ⟨_, tally_pos h⟩
    · exact .inr ⟨_, tally_pos h⟩
  · exact .inr ⟨_, tally_pos h⟩

/-- A staging wait, below everything. -/
theorem mayWait_stage (c : Dev nD) (q : DmaSem sig) (hq : q.val < 6) (O : CellTallies nD τ sig Unit) (hO : O = O0 c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O0_pos hg with ⟨d, i, _, rfl⟩ | ⟨d, rfl⟩ <;> exact Finset.mem_singleton_self _)
      (fun p hp => by rw [Finset.mem_singleton.mp hp]; dsimp only [lv]; rw [if_neg (by omega)])
      (fun g u hg => by
        rcases O0_pos hg with ⟨d, i, hi, rfl⟩ | ⟨d, rfl⟩
        · rw [lv_recv d i hi]; decide
        · exact Nat.one_pos)
  · rw [MayWait_zero]; iintro -; iempintro

/-- At the barrier wait only receive credits are owed. -/
theorem mayWait_bar (c : Dev nD) : (levAts L lv : sProp 𝕄) ⊢ MayWait (c : Thread nD τ) (.reg barS) () (O3 c) :=
  MayOwe.of_cut (L := L) (lev := lv) 1 (fun p hp => by rw [Finset.mem_singleton.mp hp, L_tc]; exact Finset.mem_singleton_self _)
    (fun g u hg => by obtain ⟨d, i, _, rfl⟩ := O3_pos hg; exact Finset.mem_singleton_self _)
    (fun p hp => by rw [Finset.mem_singleton.mp hp]; exact Nat.le_refl _)
    (fun g u hg => by obtain ⟨d, i, hi, rfl⟩ := O3_pos hg; rw [lv_recv d i hi]; decide)

end Cert.IdealRun
-- ==== Proof.IdealMoves.lean ====
/-
# The moves of the exchange: signalling, copying, waiting, loading and storing on the blocks
-/
module

public import proofs.«01_k».proof.Proof.IdealWire

@[expose] public section

noncomputable section

namespace Cert.IdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The blocks of an array, and the shares of a block -/

/-- The rows of the four blocks are all rows. -/
theorem blk_cover (c : Dev nD) : (Finset.univ : Finset S2x512x256.Idx)
    = (blkR c).set ∪ ((blkR (peer 0 c)).set ∪ ((blkR (peer 1 c)).set ∪ (blkR (peer 2 c)).set)) := by
  ext i
  simp only [Finset.mem_univ, Finset.mem_union, mem_blkR, true_iff]
  exact dev_cases (rowDev i) c

theorem blk_disj0 (c : Dev nD) : Disjoint (blkR c).set ((blkR (peer 0 c)).set ∪ ((blkR (peer 1 c)).set ∪ (blkR (peer 2 c)).set)) :=
  Finset.disjoint_union_right.mpr ⟨blk_disjoint (peer_ne 0 c).symm, Finset.disjoint_union_right.mpr
    ⟨blk_disjoint (peer_ne 1 c).symm, blk_disjoint (peer_ne 2 c).symm⟩⟩
theorem blk_disj1 (c : Dev nD) : Disjoint (blkR (peer 0 c)).set ((blkR (peer 1 c)).set ∪ (blkR (peer 2 c)).set) :=
  Finset.disjoint_union_right.mpr ⟨blk_disjoint (peer_ne_peer (by decide) c), blk_disjoint (peer_ne_peer (by decide) c)⟩
theorem blk_disj2 (c : Dev nD) : Disjoint (blkR (peer 1 c)).set (blkR (peer 2 c)).set :=
  blk_disjoint (peer_ne_peer (by decide) c)

theorem kPts_def (c p : Dev nD) (q) (f : Full F) :
    kPts c p q f = ((((c : Thread nD τ).loc cc0_scratch0) ↦[(blkR p).set]{q} f) : sProp 𝕄) := by
  unfold kPts; rw [kSl_set]
theorem vPts_def (c p : Dev nD) (q) (f : Full F) :
    vPts c p q f = ((((c : Thread nD τ).loc cc0_scratch1) ↦[(blkR p).set]{q} f) : sProp 𝕄) := by
  unfold vPts; rw [vSl_set]

theorem k_blocks (c : Dev nD) (f : Full F) :
    ((((c : Thread nD τ).loc cc0_scratch0) ↦{fullShare} f) : sProp 𝕄)
      ⊣⊢ iprop(kPts c c fullShare f ∗ kPts c (peer 0 c) fullShare f ∗ kPts c (peer 1 c) fullShare f ∗ kPts c (peer 2 c) fullShare f) := by
  simp only [kPts_def]
  have e : ((((c : Thread nD τ).loc cc0_scratch0) ↦{fullShare} f) : sProp 𝕄)
      = (((c : Thread nD τ).loc cc0_scratch0) ↦[(blkR c).set ∪ ((blkR (peer 0 c)).set ∪ ((blkR (peer 1 c)).set ∪ (blkR (peer 2 c)).set))]{fullShare} f) :=
    congrArg (fun S => (((c : Thread nD τ).loc cc0_scratch0) ↦[S]{fullShare} f : sProp 𝕄)) (blk_cover c)
  rw [e]
  exact (pointsTo_union (blk_disj0 c)).trans (sep_congr_right ((pointsTo_union (blk_disj1 c)).trans (sep_congr_right (pointsTo_union (blk_disj2 c)))))

theorem v_blocks (c : Dev nD) (f : Full F) :
    ((((c : Thread nD τ).loc cc0_scratch1) ↦{fullShare} f) : sProp 𝕄)
      ⊣⊢ iprop(vPts c c fullShare f ∗ vPts c (peer 0 c) fullShare f ∗ vPts c (peer 1 c) fullShare f ∗ vPts c (peer 2 c) fullShare f) := by
  simp only [vPts_def]
  have e : ((((c : Thread nD τ).loc cc0_scratch1) ↦{fullShare} f) : sProp 𝕄)
      = (((c : Thread nD τ).loc cc0_scratch1) ↦[(blkR c).set ∪ ((blkR (peer 0 c)).set ∪ ((blkR (peer 1 c)).set ∪ (blkR (peer 2 c)).set))]{fullShare} f) :=
    congrArg (fun S => (((c : Thread nD τ).loc cc0_scratch1) ↦[S]{fullShare} f : sProp 𝕄)) (blk_cover c)
  rw [e]
  exact (pointsTo_union (blk_disj0 c)).trans (sep_congr_right ((pointsTo_union (blk_disj1 c)).trans (sep_congr_right (pointsTo_union (blk_disj2 c)))))

theorem k_shares (c p : Dev nD) (f : Full F) :
    (kPts c p fullShare f : sProp 𝕄) ⊣⊢ iprop((kPts c p (shr 0) f ∗ kPts c p (shr 1) f) ∗ kPts c p (shr 2) f ∗ kPts c p (shr 3) f) := by
  unfold kPts
  exact (pointsTo_share (PosShare.mem_left_op_right fullShare)).trans
    (sep_congr (pointsTo_share (PosShare.mem_left_op_right _)) (pointsTo_share (PosShare.mem_left_op_right _)))
theorem v_shares (c p : Dev nD) (f : Full F) :
    (vPts c p fullShare f : sProp 𝕄) ⊣⊢ iprop((vPts c p (shr 0) f ∗ vPts c p (shr 1) f) ∗ vPts c p (shr 2) f ∗ vPts c p (shr 3) f) := by
  unfold vPts
  exact (pointsTo_share (PosShare.mem_left_op_right fullShare)).trans
    (sep_congr (pointsTo_share (PosShare.mem_left_op_right _)) (pointsTo_share (PosShare.mem_left_op_right _)))

/-! ## What a write to a block leaves -/

theorem k_write (p : Dev nD) (f g : Full F) (w : S2x128x256.Idx → Elt F .bf16) (h : ∀ x, w x = g ((blkR p).idx x)) :
    ∀ i ∈ (kSl p).view.set, (kSl p).view.write (Elt F) f w Finset.univ i = g i := by
  intro i hi
  obtain ⟨x, -, rfl⟩ := Finset.mem_map.mp hi
  rw [View.write_emb_of_mem _ _ (Finset.mem_univ x), h x]
  rfl
theorem v_write (p : Dev nD) (f g : Full F) (w : S2x128x256.Idx → Elt F .bf16) (h : ∀ x, w x = g ((blkR p).idx x)) :
    ∀ i ∈ (vSl p).view.set, (vSl p).view.write (Elt F) f w Finset.univ i = g i := by
  intro i hi
  obtain ⟨x, -, rfl⟩ := Finset.mem_map.mp hi
  rw [View.write_emb_of_mem _ _ (Finset.mem_univ x), h x]
  rfl

/-- What a device stores in its own block is the gathered array there. -/
theorem kG_own (c : Dev nD) (x : S2x128x256.Idx) : k0_pay1 (kS m ρ c) x = kG m ρ ((blkR c).idx x) := by
  unfold kG; rw [rowDev_idx, rowIdx_idx]
theorem vG_own (c : Dev nD) (x : S2x128x256.Idx) : k0_pay2 (vS m ρ c) x = vG m ρ ((blkR c).idx x) := by
  unfold vG; rw [rowDev_idx, rowIdx_idx]

/-! ## The records every device reads by -/

/-- Every cell has its invariant, and is at round 0. -/
def recs (K : Dev nD × Option (Fin 12) → ℕ) : sProp 𝕄 :=
  bigSep Finset.univ fun ck => iprop(cellInv ER (sched m ρ) (K ck) (kcell ck) ∗ reached ER (kcell ck) 0)

instance recs_persistent (K) : BI.Persistent (recs m ρ K) := by unfold recs; infer_instance

variable (K : Dev nD × Option (Fin 12) → ℕ)

theorem recs_at (ck : Dev nD × Option (Fin 12)) :
    recs m ρ K ⊢ iprop(cellInv ER (sched m ρ) (K ck) (kcell ck) ∗ reached ER (kcell ck) 0) := by
  unfold recs
  exact bigSep_elim (Finset.mem_univ ck)
theorem recs_inv (c : Dev nD) (i : Fin 12) : recs m ρ K ⊢ cellInv ER (sched m ρ) (K (c, some i)) (xCell c i) := by
  iintro H
  ihave H2 := (recs_at m ρ K (c, some i)) $$ H
  icases H2 with ⟨H1, H2⟩
  iexact H1
theorem recs_reached (c : Dev nD) (i : Fin 12) : recs m ρ K ⊢ reached ER (xCell c i) 0 := by
  iintro H
  ihave H2 := (recs_at m ρ K (c, some i)) $$ H
  icases H2 with ⟨H1, H2⟩
  iexact H2
theorem recs_bar (c : Dev nD) : recs m ρ K ⊢ cellInv ER (sched m ρ) (K (c, none)) (barCell c) := by
  iintro H
  ihave H2 := (recs_at m ρ K (c, none)) $$ H
  icases H2 with ⟨H1, H2⟩
  iexact H1
theorem recs_bar_reached (c : Dev nD) : recs m ρ K ⊢ reached ER (barCell c) 0 := by
  iintro H
  ihave H2 := (recs_at m ρ K (c, none)) $$ H
  icases H2 with ⟨H1, H2⟩
  iexact H2

/-! ## The moves -/

/-- What a device owes, its waits not told. -/
abbrev ow (c : Dev nD) (O : CellTallies nD τ sig Unit) : sProp 𝕄 := iprop(∃ W, owes (c : Thread nD τ) O W)

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A signal to the barrier of the device `peer j c`: it hands over block `peer j c` of both arrays. -/
theorem wp_sig (c n : Dev nD) (j : Fin 3) (hn : n = peer j c) (O O' : CellTallies nD τ sig Unit) (hO : O = O' + tallyAt (barCell (peer j c)) () 1)
    {α : Type} {Q : α → sProp 𝕄} {k : PUnit → Prog (TpuEff nD τ sig (Elt F) Λ₀ .tc) α} :
    iprop(recs m ρ K ∗ ow (F := F) c O ∗ dutyTok ER (barCell (peer j c)) 0 (back j) ∗ (∃ f : Full F, kPts c (peer j c) fullShare f) ∗ ∃ f : Full F, vPts c (peer j c) fullShare f)
      ⊢ iprop((ow (F := F) c O' -∗ WP c (k ⟨⟩) Q) -∗ WP c (.op (.semSignal (Dev.tc n : Thread nD τ) barS 1) k) Q) := by
  subst hn
  iintro ⟨#HR, ⟨%W, HO⟩, Ht, Hk, Hv⟩ Hc
  iapply (Rounds.wp_signal 𝒱₀ ER (sched m ρ) (c : Thread nD τ) none (dst := (peer j c : Thread nD τ)) (κ := K (peer j c, none))
      (d := back j) (by rw [duties_bar]; exact Finset.mem_univ _) (amount_bar m ρ (peer j c) (back j)) () O' hO)
    $$ [HO Ht Hk Hv]
  · isplitr; · iapply (recs_bar m ρ K (peer j c)); iexact HR
    isplitl [HO]; · iexact HO
    isplitl [Ht]; · iexact Ht
    isplitl [Hk Hv]
    · rw [payload_bar]; unfold barPay; rw [peer_back]
      isplitl [Hk] <;> iassumption
    · iapply (recs_bar_reached m ρ K (peer j c)); iexact HR
  iintro HO
  iapply Hc
  iexists W
  iexact HO

/-- The barrier wait: the block this device's copies land in, on each of the three others. -/
theorem wp_bar (c : Dev nD) {α : Type} {Q : α → sProp 𝕄} {k : PUnit → Prog (TpuEff nD τ sig (Elt F) Λ₀ .tc) α} :
    iprop(recs m ρ K ∗ levAts L lv ∗ cred (tallyAt (barCell c) () 3) ∗ ow (F := F) c (O3 c) ∗ atPos ER (barCell c) 0 ∅ 0)
      ⊢ iprop(((ow (F := F) c (O3 c) ∗ atPos ER (barCell c) 1 ∅ 0 ∗ barPay (F := F) c 0 ∗ barPay (F := F) c 1 ∗ barPay (F := F) c 2) -∗ WP c (k ⟨⟩) Q)
        -∗ WP c (.op (.semWait barS 3) k) Q) := by
  iintro ⟨#HR, #Hlev, Hcr, ⟨%W, HO⟩, Hat⟩ Hc
  iapply (Rounds.wp_wait_rest_token 𝒱₀ ER (sched m ρ) (c : Thread nD τ) none (κ := K (c, none))
      (wpE_semWait_eq 𝒱₀ (c : Thread nD τ) none Set.univ) (Set.mem_univ _) () (O := O3 c) (W := W) (R := 0) (m := 0) (T := ∅)
      (by rw [expect_bar])) $$ [Hcr HO Hat]
  · isplitr; · iapply (recs_bar m ρ K c); iexact HR
    isplitl [Hcr]; · iexact Hcr
    isplitl [HO]; · iexact HO
    isplitr; · iapply (mayWait_bar c); iexact Hlev
    iexact Hat
  iintro ⟨HO, Hat, -, Hpay⟩
  iapply Hc
  isplitl [HO]; · iexists _; iexact HO
  isplitl [Hat]; · iexact Hat
  iapply (Entails.of_eq (rest_bar m ρ c)); iexact Hpay

theorem credit_all (v : Memref sig .tc .vmem S2x128x256 .bf16) : v.view.dmaCredit = N := rfl

/-- What a landing at device `peer j c` hands that device, seen from the sender `c`. -/
theorem land0_k (c : Dev nD) : xPay m ρ (peer 0 c) 3 = kPts (peer 0 c) c fullShare (kG m ρ) := by
  show kPts (peer 0 c) (peer 1 (peer 0 c)) fullShare (kG m ρ) = _; rw [show peer 1 (peer 0 c) = c from peer_back 0 c]
theorem land1_k (c : Dev nD) : xPay m ρ (peer 1 c) 4 = kPts (peer 1 c) c fullShare (kG m ρ) := by
  show kPts (peer 1 c) (peer 0 (peer 1 c)) fullShare (kG m ρ) = _; rw [show peer 0 (peer 1 c) = c from peer_back 1 c]
theorem land2_k (c : Dev nD) : xPay m ρ (peer 2 c) 5 = kPts (peer 2 c) c fullShare (kG m ρ) := by
  show kPts (peer 2 c) (peer 2 (peer 2 c)) fullShare (kG m ρ) = _; rw [show peer 2 (peer 2 c) = c from peer_back 2 c]
theorem land0_v (c : Dev nD) : xPay m ρ (peer 0 c) 9 = vPts (peer 0 c) c fullShare (vG m ρ) := by
  show vPts (peer 0 c) (peer 1 (peer 0 c)) fullShare (vG m ρ) = _; rw [show peer 1 (peer 0 c) = c from peer_back 0 c]
theorem land1_v (c : Dev nD) : xPay m ρ (peer 1 c) 10 = vPts (peer 1 c) c fullShare (vG m ρ) := by
  show vPts (peer 1 c) (peer 0 (peer 1 c)) fullShare (vG m ρ) = _; rw [show peer 0 (peer 1 c) = c from peer_back 1 c]
theorem land2_v (c : Dev nD) : xPay m ρ (peer 2 c) 11 = vPts (peer 2 c) c fullShare (vG m ρ) := by
  show vPts (peer 2 c) (peer 2 (peer 2 c)) fullShare (vG m ρ) = _; rw [show peer 2 (peer 2 c) = c from peer_back 2 c]

/-- A wait on one of the own cells, owing nothing. -/
theorem wp_wait (c : Dev nD) (i : Fin 12) {s : DmaSem sig} (hs : s = dsem i) {src dst : Memref sig .tc .vmem S2x128x256 .bf16} {hsrc : src.view.WordExact} {hdst : dst.view.WordExact}
    {α : Type} {Q : α → sProp 𝕄} {k : PUnit → Prog (TpuEff nD τ sig (Elt F) Λ₀ .tc) α} :
    iprop(recs m ρ K ∗ cred (tallyAt (xCell c i) () N) ∗ ow (F := F) c 0 ∗ atPos ER (xCell c i) 0 ∅ 0)
      ⊢ iprop(((ow (F := F) c 0 ∗ atPos ER (xCell c i) 1 ∅ 0 ∗ xPay m ρ c i) -∗ WP c (k ⟨⟩) Q)
        -∗ WP c (.op (.waitDma2 s src dst hsrc hdst) k) Q) := by
  subst hs
  iintro ⟨#HR, Hcr, ⟨%W, HO⟩, Hat⟩ Hc
  iapply (Rounds.wp_wait_rest_token 𝒱₀ ER (sched m ρ) (c : Thread nD τ) none (κ := K (c, some i))
      (wpE_waitDma2_eq 𝒱₀ (c : Thread nD τ) none Set.univ) (Set.mem_univ _) () (O := 0) (W := W) (R := 0) (m := 0) (T := ∅)
      (by rw [Nat.zero_add, expect_x])) $$ [Hcr HO Hat]
  · isplitr; · iapply (recs_inv m ρ K c i); iexact HR
    isplitl [Hcr]; · iexact Hcr
    isplitl [HO]; · iexact HO
    isplitr; · rw [MayWait_zero]; iempintro
    iexact Hat
  iintro ⟨HO, Hat, -, Hpay⟩
  iapply Hc
  isplitl [HO]; · iexists _; iexact HO
  isplitl [Hat]; · iexact Hat
  iapply (Entails.of_eq (rest_x m ρ c i)); iexact Hpay

theorem k_landed (p : Dev nD) (fd : Full F) : ∀ i ∈ (kSl p).view.set,
    (kSl p).view.write (Elt F) fd ((kSl p).view.read (Elt F) (kG m ρ)) Finset.univ i = kG m ρ i :=
  k_write p fd (kG m ρ) _ fun _ => rfl
theorem v_landed (p : Dev nD) (fd : Full F) : ∀ i ∈ (vSl p).view.set,
    (vSl p).view.write (Elt F) fd ((vSl p).view.read (Elt F) (vG m ρ)) Finset.univ i = vG m ρ i :=
  v_write p fd (vG m ρ) _ fun _ => rfl

theorem k_amount (p : Dev nD) (s : DmaSem sig) : (kSl p).view.amount (.dma s) = N := (View.amount_dma _ _).trans rfl
theorem v_amount (p : Dev nD) (s : DmaSem sig) : (vSl p).view.amount (.dma s) = N := (View.amount_dma _ _).trans rfl

/-- A copy of the own block of the first array to the device `peer j c`. -/
theorem wp_sendK (c n : Dev nD) (j : Fin 3) (hn : n = peer j c) (i i' : Fin 12) {s s' : DmaSem sig} (hs : s = dsem i) (hs' : s' = dsem i') (q : PosShare TreeShare)
    (hi : xPay m ρ c i = kPts c c q (kG m ρ)) (hi' : xPay m ρ (peer j c) i' = kPts (peer j c) c fullShare (kG m ρ))
    (O O' : CellTallies nD τ sig Unit) (hO : O = O' + due c j i')
    {hsc : (kSl c : Memref sig (Dev.tc n : Thread nD τ).2.kind .vmem S2x128x256 .bf16).view.ref.isScScratch = false}
    {hsrc : (kSl c).view.WordExact} {hdst : (kSl c).view.WordExact}
    {hsem : DmaTarget.Typed .vmem (.dma s') (.remote (Dev.tc n : Thread nD τ) (kSl c) (.dma s) hsc)}
    {α : Type} {Q : α → sProp 𝕄} {k : PUnit → Prog (TpuEff nD τ sig (Elt F) Λ₀ .tc) α} :
    iprop(recs m ρ K ∗ kPts c c q (kG m ρ) ∗ (∃ f : Full F, kPts (peer j c) c fullShare f) ∗ ow (F := F) c O
        ∗ dutyTok ER (xCell c i) 0 0 ∗ dutyTok ER (xCell (peer j c) i') 0 0)
      ⊢ iprop(((cred (tallyAt (xCell c i) () N) ∗ ow (F := F) c O') -∗ WP c (k ⟨⟩) Q)
        -∗ WP c (.op (.enqueueDma (kSl c) (.remote (Dev.tc n : Thread nD τ) (kSl c) (.dma s) hsc) (.dma s') hsrc hdst hsem) k) Q) := by
  subst hs hs'; subst hn
  iintro ⟨#HR, Hs, ⟨%fd, Hd⟩, ⟨%W, HO⟩, Ht, Ht'⟩ Hc
  have h1 : (0 : Fin 3) ∈ (sched (F := F) m ρ).duties (xCell c i) 0 := by rw [duties_x]; exact Finset.mem_singleton_self _
  have h2 : (0 : Fin 3) ∈ (sched (F := F) m ρ).duties (xCell (peer j c) i') 0 := by rw [duties_x]; exact Finset.mem_singleton_self _
  have p1 : (((kSl c).view.loc (c : Thread nD τ) ↦[(kSl c).view.set]{q} kG m ρ) : sProp 𝕄) ⊢ (sched m ρ).payload (xCell c i) 0 0 := by
    rw [payload_x, hi]; exact BI.Entails.refl _
  have p2 : (((kSl c).view.loc (peer j c : Thread nD τ) ↦[(kSl c).view.set]{fullShare}
      ((kSl c).view.write (Elt F) fd ((kSl c).view.read (Elt F) (kG m ρ)) Finset.univ)) : sProp 𝕄) ⊢ (sched m ρ).payload (xCell (peer j c) i') 0 0 := by
    rw [payload_x, hi']; exact Entails.of_eq (pointsTo_congr (k_landed m ρ c fd))
  have key := Rounds.wp_send_pointsTo (Q := Q) (k := k) 𝒱₀ ER (sched m ρ) (c : Thread nD τ) none (κ₁ := K (c, some i)) (κ₂ := K (peer j c, some i'))
    (c' := (peer j c : Thread nD τ)) (src := kSl c) (dst := kSl c) (sS := .dma (dsem i)) (sem := .dma (dsem i')) (hsc := hsc) (hsrc := hsrc) (hdst := hdst) (hsem := hsem)
    (r₁ := 0) (r₂ := 0) (d₁ := 0) (d₂ := 0) (fd := fd) (fs := kG m ρ) (q := q) h1 h2
    () () N (k_amount c _) (amount_x m ρ c i 0) (amount_x m ρ (peer j c) i' 0) O' hO (W := W) p1 p2 (Es := Set.univ) (defs := defs₀ (F := F)) (Γ := .empty) (hr := by routes)
  iapply key $$ [Hs Hd HO Ht Ht']
  · isplitr; · iapply (recs_inv m ρ K c i); iexact HR
    isplitr; · iapply (recs_inv m ρ K (peer j c) i'); iexact HR
    isplitl [Hs]; · unfold kPts; iexact Hs
    isplitl [Hd]; · unfold kPts; iexact Hd
    isplitl [HO]; · iexact HO
    isplitl [Ht]; · iexact Ht
    isplitr; · iapply (recs_reached m ρ K c i); iexact HR
    isplitl [Ht']; · iexact Ht'
    iapply (recs_reached m ρ K (peer j c) i'); iexact HR
  iintro ⟨Hcr, HO⟩
  iapply Hc
  isplitl [Hcr]; · iexact Hcr
  iexists _; iexact HO

/-- The same for the second array. -/
theorem wp_sendV (c n : Dev nD) (j : Fin 3) (hn : n = peer j c) (i i' : Fin 12) {s s' : DmaSem sig} (hs : s = dsem i) (hs' : s' = dsem i') (q : PosShare TreeShare)
    (hi : xPay m ρ c i = vPts c c q (vG m ρ)) (hi' : xPay m ρ (peer j c) i' = vPts (peer j c) c fullShare (vG m ρ))
    (O O' : CellTallies nD τ sig Unit) (hO : O = O' + due c j i')
    {hsc : (vSl c : Memref sig (Dev.tc n : Thread nD τ).2.kind .vmem S2x128x256 .bf16).view.ref.isScScratch = false}
    {hsrc : (vSl c).view.WordExact} {hdst : (vSl c).view.WordExact}
    {hsem : DmaTarget.Typed .vmem (.dma s') (.remote (Dev.tc n : Thread nD τ) (vSl c) (.dma s) hsc)}
    {α : Type} {Q : α → sProp 𝕄} {k : PUnit → Prog (TpuEff nD τ sig (Elt F) Λ₀ .tc) α} :
    iprop(recs m ρ K ∗ vPts c c q (vG m ρ) ∗ (∃ f : Full F, vPts (peer j c) c fullShare f) ∗ ow (F := F) c O
        ∗ dutyTok ER (xCell c i) 0 0 ∗ dutyTok ER (xCell (peer j c) i') 0 0)
      ⊢ iprop(((cred (tallyAt (xCell c i) () N) ∗ ow (F := F) c O') -∗ WP c (k ⟨⟩) Q)
        -∗ WP c (.op (.enqueueDma (vSl c) (.remote (Dev.tc n : Thread nD τ) (vSl c) (.dma s) hsc) (.dma s') hsrc hdst hsem) k) Q) := by
  subst hs hs'; subst hn
  iintro ⟨#HR, Hs, ⟨%fd, Hd⟩, ⟨%W, HO⟩, Ht, Ht'⟩ Hc
  have h1 : (0 : Fin 3) ∈ (sched (F := F) m ρ).duties (xCell c i) 0 := by rw [duties_x]; exact Finset.mem_singleton_self _
  have h2 : (0 : Fin 3) ∈ (sched (F := F) m ρ).duties (xCell (peer j c) i') 0 := by rw [duties_x]; exact Finset.mem_singleton_self _
  have p1 : (((vSl c).view.loc (c : Thread nD τ) ↦[(vSl c).view.set]{q} vG m ρ) : sProp 𝕄) ⊢ (sched m ρ).payload (xCell c i) 0 0 := by
    rw [payload_x, hi]; exact BI.Entails.refl _
  have p2 : (((vSl c).view.loc (peer j c : Thread nD τ) ↦[(vSl c).view.set]{fullShare}
      ((vSl c).view.write (Elt F) fd ((vSl c).view.read (Elt F) (vG m ρ)) Finset.univ)) : sProp 𝕄) ⊢ (sched m ρ).payload (xCell (peer j c) i') 0 0 := by
    rw [payload_x, hi']; exact Entails.of_eq (pointsTo_congr (v_landed m ρ c fd))
  have key := Rounds.wp_send_pointsTo (Q := Q) (k := k) 𝒱₀ ER (sched m ρ) (c : Thread nD τ) none (κ₁ := K (c, some i)) (κ₂ := K (peer j c, some i'))
    (c' := (peer j c : Thread nD τ)) (src := vSl c) (dst := vSl c) (sS := .dma (dsem i)) (sem := .dma (dsem i')) (hsc := hsc) (hsrc := hsrc) (hdst := hdst) (hsem := hsem)
    (r₁ := 0) (r₂ := 0) (d₁ := 0) (d₂ := 0) (fd := fd) (fs := vG m ρ) (q := q) h1 h2
    () () N (v_amount c _) (amount_x m ρ c i 0) (amount_x m ρ (peer j c) i' 0) O' hO (W := W) p1 p2 (Es := Set.univ) (defs := defs₀ (F := F)) (Γ := .empty) (hr := by routes)
  iapply key $$ [Hs Hd HO Ht Ht']
  · isplitr; · iapply (recs_inv m ρ K c i); iexact HR
    isplitr; · iapply (recs_inv m ρ K (peer j c) i'); iexact HR
    isplitl [Hs]; · unfold vPts; iexact Hs
    isplitl [Hd]; · unfold vPts; iexact Hd
    isplitl [HO]; · iexact HO
    isplitl [Ht]; · iexact Ht
    isplitr; · iapply (recs_reached m ρ K c i); iexact HR
    isplitl [Ht']; · iexact Ht'
    iapply (recs_reached m ρ K (peer j c) i'); iexact HR
  iintro ⟨Hcr, HO⟩
  iapply Hc
  isplitl [Hcr]; · iexact Hcr
  iexists _; iexact HO

/-! ## Loads and stores on a block -/

/-- A row window lies in block `p`. -/
theorem sub_blk {off : Fin 3 → ℕ} {inb} (p : Dev nD) (b : ℕ) (h : off = ![b, 128 * p.val, 0]) :
    (Rect.unit (s := S2x512x256) off S1x128x256.size inb).set ⊆ (blkR p).set := by
  subst h
  intro i hi
  rw [Rect.mem_set_unit] at hi
  have e : 128 * p.val ≤ (i 1).val ∧ (i 1).val < 128 * p.val + 128 := hi 1
  refine (mem_blkR p i).mpr (Fin.ext ?_)
  show (i 1).val / 128 = p.val
  omega

theorem setOn_whole_k (S : Finset S2x512x256.Idx) : kM.view.setOn S = S := by
  ext i
  constructor
  · intro h
    obtain ⟨x, hx, rfl⟩ := Finset.mem_map.mp h
    exact hx
  · intro h
    exact Finset.mem_map.mpr ⟨i, h, rfl⟩

theorem setOn_whole_v (S : Finset S2x512x256.Idx) : vM.view.setOn S = S := by
  ext i
  constructor
  · intro h
    obtain ⟨x, hx, rfl⟩ := Finset.mem_map.mp h
    exact hx
  · intro h
    exact Finset.mem_map.mpr ⟨i, h, rfl⟩

theorem wp_loadK (c p : Dev nD) (q : PosShare TreeShare) (b : ℕ) {off : Fin 3 → ℕ} {inb} (hoff : off = ![b, 128 * p.val, 0]) {hl}
    {α : Type} {Q : α → sProp 𝕄} {k : _ → Prog (TpuEff nD τ sig (Elt F) Λ₀ .tc) α} (f : Full F) :
    (kPts c p q f : sProp 𝕄) ⊢ iprop((kPts c p q f -∗ WP c (k (kM.view.readAt (Elt F) (Rect.unit (s := S2x512x256) off S1x128x256.size inb).toLoadRect f)) Q)
      -∗ WP c (.op (.load kM (Rect.unit (s := S2x512x256) off S1x128x256.size inb).toLoadRect hl) k) Q) := by
  rw [kPts_def]
  exact wp_load 𝒱₀ (c : Thread nD τ) none Set.univ (m := kM) (by rw [setOn_whole_k]; exact sub_blk p b hoff)

theorem wp_loadV (c p : Dev nD) (q : PosShare TreeShare) (b : ℕ) {off : Fin 3 → ℕ} {inb} (hoff : off = ![b, 128 * p.val, 0]) {hl}
    {α : Type} {Q : α → sProp 𝕄} {k : _ → Prog (TpuEff nD τ sig (Elt F) Λ₀ .tc) α} (f : Full F) :
    (vPts c p q f : sProp 𝕄) ⊢ iprop((vPts c p q f -∗ WP c (k (vM.view.readAt (Elt F) (Rect.unit (s := S2x512x256) off S1x128x256.size inb).toLoadRect f)) Q)
      -∗ WP c (.op (.load vM (Rect.unit (s := S2x512x256) off S1x128x256.size inb).toLoadRect hl) k) Q) := by
  rw [vPts_def]
  exact wp_load 𝒱₀ (c : Thread nD τ) none Set.univ (m := vM) (by rw [setOn_whole_v]; exact sub_blk p b hoff)

/-- The dead load and the store of the own block. -/
theorem wp_ownK (c : Dev nD) (f : Full F) {off : Fin 3 → ℕ} {inb} (hoff : off = k0_off2 c) {hl hx hm}
    {α : Type} {Q : α → sProp 𝕄} {k : PUnit → Prog (TpuEff nD τ sig (Elt F) Λ₀ .tc) α} :
    (kPts c c fullShare f : sProp 𝕄) ⊢ iprop((kPts c c fullShare (kG m ρ) -∗ WP c (k ⟨⟩) Q)
      -∗ WP c (.op (.load kM (Rect.unit (s := S2x512x256) off S2x128x256.size inb).toLoadRect hl) fun _ =>
        .op (.store kM (Rect.unit (s := S2x512x256) off S2x128x256.size inb) (k0_pay1 (kS m ρ c)) Finset.univ hx hm) k) Q) := by
  subst hoff
  iintro H Hc
  unfold kPts
  iapply (wp_load 𝒱₀ (c : Thread nD τ) none Set.univ (m := kM) (S := (kSl c).view.set) (by rw [setOn_whole_k, kSl_set])) $$ H
  iintro H
  iapply (wp_store 𝒱₀ (c : Thread nD τ) none Set.univ (m := kM) (r := blkR c) (Mk := Finset.univ) (S := (kSl c).view.set) (Finset.Subset.refl _)) $$ H
  iintro H
  iapply Hc
  iapply (Entails.of_eq (pointsTo_congr (k_write c f (kG m ρ) _ (kG_own m ρ c))))
  iexact H

theorem wp_ownV (c : Dev nD) (f : Full F) {off : Fin 3 → ℕ} {inb} (hoff : off = k0_off2 c) {hl hx hm}
    {α : Type} {Q : α → sProp 𝕄} {k : PUnit → Prog (TpuEff nD τ sig (Elt F) Λ₀ .tc) α} :
    (vPts c c fullShare f : sProp 𝕄) ⊢ iprop((vPts c c fullShare (vG m ρ) -∗ WP c (k ⟨⟩) Q)
      -∗ WP c (.op (.load vM (Rect.unit (s := S2x512x256) off S2x128x256.size inb).toLoadRect hl) fun _ =>
        .op (.store vM (Rect.unit (s := S2x512x256) off S2x128x256.size inb) (k0_pay2 (vS m ρ c)) Finset.univ hx hm) k) Q) := by
  subst hoff
  iintro H Hc
  unfold vPts
  iapply (wp_load 𝒱₀ (c : Thread nD τ) none Set.univ (m := vM) (S := (vSl c).view.set) (by rw [setOn_whole_v, vSl_set])) $$ H
  iintro H
  iapply (wp_store 𝒱₀ (c : Thread nD τ) none Set.univ (m := vM) (r := blkR c) (Mk := Finset.univ) (S := (vSl c).view.set) (Finset.Subset.refl _)) $$ H
  iintro H
  iapply Hc
  iapply (Entails.of_eq (pointsTo_congr (v_write c f (vG m ρ) _ (vG_own m ρ c))))
  iexact H

end Cert.IdealRun
-- ==== Proof.IdealVals.lean ====
/-
# The values of the kernel's body on device `c`

One definition for every value the body passes between its parts: what each load reads from the staged
blocks and from the gathered arrays, and what each stretch of arithmetic makes of it.  The number of a
definition is the number of the value in the printed kernel.
-/
module

public import proofs.«01_k».proof.Proof.IdealWire

@[expose] public section

noncomputable section

namespace Cert.IdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev Mem (F : FTy → Type) : Type := (ℓ : Loc nD τ sig) → Buf (Elt F) ℓ

def x0 (m : Mem F) (ρ : Dev nD → PrngReg) (c : Dev nD) : BitVec 32 := Dev.word c
def x1 (m : Mem F) (ρ : Dev nD → PrngReg) (c : Dev nD) : BitVec 32 := Scalar.divsi (x0 m ρ c) 1#32
def x2 (m : Mem F) (ρ : Dev nD → PrngReg) (c : Dev nD) : BitVec 32 := Scalar.remsi (x1 m ρ c) 4#32
def x3 (m : Mem F) (ρ : Dev nD → PrngReg) (c : Dev nD) : BitVec 32 := Scalar.addi (x2 m ρ c) 3#32
def x4 (m : Mem F) (ρ : Dev nD → PrngReg) (c : Dev nD) : BitVec 32 := Scalar.remsi (x3 m ρ c) 4#32
def x5 (m : Mem F) (ρ : Dev nD → PrngReg) (c : Dev nD) : BitVec 32 := Scalar.addi (x2 m ρ c) 1#32
def x6 (m : Mem F) (ρ : Dev nD → PrngReg) (c : Dev nD) : BitVec 32 := Scalar.remsi (x5 m ρ c) 4#32
def x7 (m : Mem F) (ρ : Dev nD → PrngReg) (c : Dev nD) : BitVec 32 := Scalar.addi (x2 m ρ c) 2#32
def x8 (m : Mem F) (ρ : Dev nD → PrngReg) (c : Dev nD) : BitVec 32 := Scalar.remsi (x7 m ρ c) 4#32
def x16 (m : Mem F) (ρ : Dev nD → PrngReg) (c : Dev nD) : Vec F S2x128x4x64 .bf16 := (Memref.whole cc0_stg2_0).view.readAt (Elt F) (Rect.unit (s := S2x128x4x64) ![0, 0, 0, 0] S2x128x4x64.size inb_S2x128x4x64_S2x128x4x64_0_0_0_0).toLoadRect (kS m ρ c)
def x24 (m : Mem F) (ρ : Dev nD → PrngReg) (c : Dev nD) : Vec F S2x128x4x64 .bf16 := (Memref.whole cc0_stg3_0).view.readAt (Elt F) (Rect.unit (s := S2x128x4x64) ![0, 0, 0, 0] S2x128x4x64.size inb_S2x128x4x64_S2x128x4x64_0_0_0_0).toLoadRect (vS m ρ c)
def xc128_i32_76 (m : Mem F) (ρ : Dev nD → PrngReg) (c : Dev nD) : BitVec 32 := 128#32
def x92 (m : Mem F) (ρ : Dev nD → PrngReg) (c : Dev nD) : Vec F S512x256 .bf16 := (Memref.whole cc0_stg1_0).view.readAt (Elt F) (Rect.unit (s := S512x256) ![0, 0] S512x256.size inb_S512x256_S512x256_0_0).toLoadRect (wqS m ρ c)
def x94 (m : Mem F) (ρ : Dev nD → PrngReg) (c : Dev nD) : Vec F S256x512 .bf16 := (Memref.whole cc0_stg4_0).view.readAt (Elt F) (Rect.unit (s := S256x512) ![0, 0] S256x512.size inb_S256x512_S256x512_0_0).toLoadRect (woS m ρ c)
def x96 (m : Mem F) (ρ : Dev nD → PrngReg) (c : Dev nD) : Vec F S1x128x512 .bf16 := (Memref.whole cc0_stg0_0).view.readAt (Elt F) (Rect.unit (s := S2x128x512) ![0, 0, 0] S1x128x512.size inb_S2x128x512_S1x128x512_0_0_0).toLoadRect (xS m ρ c)
def x100 (m : Mem F) (ρ : Dev nD → PrngReg) (c : Dev nD) : Vec F S1x128x512 .bf16 := (Memref.whole cc0_stg0_0).view.readAt (Elt F) (Rect.unit (s := S2x128x512) ![1, 0, 0] S1x128x512.size inb_S2x128x512_S1x128x512_1_0_0).toLoadRect (xS m ρ c)
def x108 (m : Mem F) (ρ : Dev nD → PrngReg) (c : Dev nD) : IVec S128x128 32 := iota .tc S128x128 32 [1] iota_S128x128_d1_w32
def x95 (m : Mem F) (ρ : Dev nD → PrngReg) (c : Dev nD) : FVec F S256x512 .bf16 := k0_pay4 (x94 m ρ c)
def x99 (m : Mem F) (ρ : Dev nD → PrngReg) (c : Dev nD) : FVec F S128x256 .bf16 := k0_pay5 (x92 m ρ c) (x96 m ρ c)
def x103 (m : Mem F) (ρ : Dev nD → PrngReg) (c : Dev nD) : FVec F S128x256 .bf16 := k0_pay6 (x92 m ρ c) (x100 m ρ c)
def x107 (m : Mem F) (ρ : Dev nD → PrngReg) (c : Dev nD) : IVec S128x128 32 := k0_pay7 (x2 m ρ c)
def x109 (m : Mem F) (ρ : Dev nD → PrngReg) (c : Dev nD) : FVec F S128x64 .f32 := k0_pay8 (F := F)
def x110 (m : Mem F) (ρ : Dev nD → PrngReg) (c : Dev nD) : FVec F S128x64 .f32 := k0_pay9 (F := F)
def x111 (m : Mem F) (ρ : Dev nD → PrngReg) (c : Dev nD) : FVec F S128x64 .f32 := k0_pay10 (F := F)
def x112 (m : Mem F) (ρ : Dev nD → PrngReg) (c : Dev nD) : FVec F S128x64 .f32 := k0_pay11 (F := F)
def x113 (m : Mem F) (ρ : Dev nD → PrngReg) (c : Dev nD) : FVec F S128x64 .f32 := k0_pay12 (F := F)
def x114 (m : Mem F) (ρ : Dev nD → PrngReg) (c : Dev nD) : FVec F S128x64 .f32 := k0_pay13 (F := F)
def x140 (m : Mem F) (ρ : Dev nD → PrngReg) (c : Dev nD) : Vec F S1x128x256 .bf16 := (Memref.whole cc0_scratch0).view.readAt (Elt F) (Rect.unit (s := S2x512x256) (k0_off3 c) S1x128x256.size (k0_off3_inb c)).toLoadRect (kG m ρ)
def x144 (m : Mem F) (ρ : Dev nD → PrngReg) (c : Dev nD) : Vec F S1x128x256 .bf16 := (Memref.whole cc0_scratch1).view.readAt (Elt F) (Rect.unit (s := S2x512x256) (k0_off3 c) S1x128x256.size (k0_off3_inb c)).toLoadRect (vG m ρ)
def x115 (m : Mem F) (ρ : Dev nD → PrngReg) (c : Dev nD) : FVec F S128x64 .f32 := k0_pay14 (F := F)
def x116 (m : Mem F) (ρ : Dev nD → PrngReg) (c : Dev nD) : FVec F S128x64 .f32 := k0_pay15 (F := F)
def x117 (m : Mem F) (ρ : Dev nD → PrngReg) (c : Dev nD) : FVec F S128x1 .f32 := k0_pay16 (F := F)
def x118 (m : Mem F) (ρ : Dev nD → PrngReg) (c : Dev nD) : FVec F S128x1 .f32 := k0_pay17 (F := F)
def x119 (m : Mem F) (ρ : Dev nD → PrngReg) (c : Dev nD) : FVec F S128x1 .f32 := k0_pay18 (F := F)
def x120 (m : Mem F) (ρ : Dev nD → PrngReg) (c : Dev nD) : FVec F S128x1 .f32 := k0_pay19 (F := F)
def x121 (m : Mem F) (ρ : Dev nD → PrngReg) (c : Dev nD) : FVec F S128x1 .f32 := k0_pay20 (F := F)
def x122 (m : Mem F) (ρ : Dev nD → PrngReg) (c : Dev nD) : FVec F S128x1 .f32 := k0_pay21 (F := F)
def x123 (m : Mem F) (ρ : Dev nD → PrngReg) (c : Dev nD) : FVec F S128x1 .f32 := k0_pay22 (F := F)
def x124 (m : Mem F) (ρ : Dev nD → PrngReg) (c : Dev nD) : FVec F S128x1 .f32 := k0_pay23 (F := F)
def x137 (m : Mem F) (ρ : Dev nD → PrngReg) (c : Dev nD) : IVec S128x128 1 := k0_pay24 (x2 m ρ c) (x107 m ρ c) (x108 m ρ c)
def x141 (m : Mem F) (ρ : Dev nD → PrngReg) (c : Dev nD) : FVec F S128x256 .bf16 := k0_pay25 (x140 m ρ c)
def x145 (m : Mem F) (ρ : Dev nD → PrngReg) (c : Dev nD) : FVec F S128x256 .bf16 := k0_pay26 (x144 m ρ c)
def x150 (m : Mem F) (ρ : Dev nD → PrngReg) (c : Dev nD) : FVec F S128x128 .f32 := k0_pay27 (x99 m ρ c) (x140 m ρ c)
def x151 (m : Mem F) (ρ : Dev nD → PrngReg) (c : Dev nD) : FVec F S128x128 .f32 := k0_pay28 (F := F)
def x156 (m : Mem F) (ρ : Dev nD → PrngReg) (c : Dev nD) : FVec F S128x1 .f32 := k0_pay30 (x117 m ρ c) (x137 m ρ c) (x150 m ρ c) (x151 m ρ c)
def x160 (m : Mem F) (ρ : Dev nD → PrngReg) (c : Dev nD) : FVec F S128x64 .f32 := k0_pay31 (x109 m ρ c) (x137 m ρ c) (x145 m ρ c) (x150 m ρ c) (x151 m ρ c)
def x171 (m : Mem F) (ρ : Dev nD → PrngReg) (c : Dev nD) : FVec F S128x1 .f32 := k0_pay33 (x99 m ρ c) (x118 m ρ c) (x137 m ρ c) (x141 m ρ c)
def x175 (m : Mem F) (ρ : Dev nD → PrngReg) (c : Dev nD) : FVec F S128x64 .f32 := k0_pay34 (x99 m ρ c) (x110 m ρ c) (x137 m ρ c) (x141 m ρ c) (x145 m ρ c)
def x186 (m : Mem F) (ρ : Dev nD → PrngReg) (c : Dev nD) : FVec F S128x1 .f32 := k0_pay36 (x99 m ρ c) (x119 m ρ c) (x137 m ρ c) (x141 m ρ c)
def x190 (m : Mem F) (ρ : Dev nD → PrngReg) (c : Dev nD) : FVec F S128x64 .f32 := k0_pay37 (x99 m ρ c) (x111 m ρ c) (x137 m ρ c) (x141 m ρ c) (x145 m ρ c)
def x195 (m : Mem F) (ρ : Dev nD → PrngReg) (c : Dev nD) : FVec F S128x128 .f32 := k0_pay38 (x99 m ρ c) (x141 m ρ c)
def x196 (m : Mem F) (ρ : Dev nD → PrngReg) (c : Dev nD) : FVec F S128x128 .f32 := k0_pay39 (F := F)
def x208 (m : Mem F) (ρ : Dev nD → PrngReg) (c : Dev nD) : Vec F S1x128x256 .bf16 := (Memref.whole cc0_scratch0).view.readAt (Elt F) (Rect.unit (s := S2x512x256) (k0_off4 c) S1x128x256.size (k0_off4_inb c)).toLoadRect (kG m ρ)
def x212 (m : Mem F) (ρ : Dev nD → PrngReg) (c : Dev nD) : Vec F S1x128x256 .bf16 := (Memref.whole cc0_scratch1).view.readAt (Elt F) (Rect.unit (s := S2x512x256) (k0_off4 c) S1x128x256.size (k0_off4_inb c)).toLoadRect (vG m ρ)
def x201 (m : Mem F) (ρ : Dev nD → PrngReg) (c : Dev nD) : FVec F S128x1 .f32 := k0_pay41 (x120 m ρ c) (x137 m ρ c) (x195 m ρ c) (x196 m ρ c)
def x205 (m : Mem F) (ρ : Dev nD → PrngReg) (c : Dev nD) : FVec F S128x64 .f32 := k0_pay42 (x112 m ρ c) (x137 m ρ c) (x145 m ρ c) (x195 m ρ c) (x196 m ρ c)
def x209 (m : Mem F) (ρ : Dev nD → PrngReg) (c : Dev nD) : FVec F S128x256 .bf16 := k0_pay43 (x208 m ρ c)
def x213 (m : Mem F) (ρ : Dev nD → PrngReg) (c : Dev nD) : FVec F S128x256 .bf16 := k0_pay44 (x212 m ρ c)
def x224 (m : Mem F) (ρ : Dev nD → PrngReg) (c : Dev nD) : FVec F S128x1 .f32 := k0_pay46 (x103 m ρ c) (x121 m ρ c) (x137 m ρ c) (x208 m ρ c)
def x228 (m : Mem F) (ρ : Dev nD → PrngReg) (c : Dev nD) : FVec F S128x64 .f32 := k0_pay47 (x103 m ρ c) (x113 m ρ c) (x137 m ρ c) (x208 m ρ c) (x212 m ρ c)
def x236 (m : Mem F) (ρ : Dev nD → PrngReg) (c : Dev nD) : FVec F S128x128 .f32 := k0_pay48 (x103 m ρ c) (x137 m ρ c) (x208 m ρ c)
def x239 (m : Mem F) (ρ : Dev nD → PrngReg) (c : Dev nD) : FVec F S128x1 .f32 := k0_pay49 (x103 m ρ c) (x122 m ρ c) (x137 m ρ c) (x208 m ρ c)
def x243 (m : Mem F) (ρ : Dev nD → PrngReg) (c : Dev nD) : FVec F S128x64 .f32 := k0_pay50 (x114 m ρ c) (x213 m ρ c) (x236 m ρ c)
def x254 (m : Mem F) (ρ : Dev nD → PrngReg) (c : Dev nD) : FVec F S128x1 .f32 := k0_pay52 (x103 m ρ c) (x123 m ρ c) (x137 m ρ c) (x209 m ρ c)
def x258 (m : Mem F) (ρ : Dev nD → PrngReg) (c : Dev nD) : FVec F S128x64 .f32 := k0_pay53 (x103 m ρ c) (x115 m ρ c) (x137 m ρ c) (x209 m ρ c) (x213 m ρ c)
def x269 (m : Mem F) (ρ : Dev nD → PrngReg) (c : Dev nD) : FVec F S128x1 .f32 := k0_pay55 (x103 m ρ c) (x124 m ρ c) (x137 m ρ c) (x209 m ρ c)
def x273 (m : Mem F) (ρ : Dev nD → PrngReg) (c : Dev nD) : FVec F S128x64 .f32 := k0_pay56 (x103 m ρ c) (x116 m ρ c) (x137 m ρ c) (x209 m ρ c) (x213 m ρ c)
def x305 (m : Mem F) (ρ : Dev nD → PrngReg) (c : Dev nD) : Vec F S1x128x256 .bf16 := (Memref.whole cc0_scratch0).view.readAt (Elt F) (Rect.unit (s := S2x512x256) (k0_off6 c 1#32) S1x128x256.size (k0_off6_inb c 0)).toLoadRect (kG m ρ)
def x309 (m : Mem F) (ρ : Dev nD → PrngReg) (c : Dev nD) : Vec F S1x128x256 .bf16 := (Memref.whole cc0_scratch1).view.readAt (Elt F) (Rect.unit (s := S2x512x256) (k0_off6 c 1#32) S1x128x256.size (k0_off6_inb c 0)).toLoadRect (vG m ρ)
def x302 (m : Mem F) (ρ : Dev nD → PrngReg) (c : Dev nD) : IVec S128x128 1 := k0_pay57 (x6 m ρ c) (x107 m ρ c) (x108 m ρ c)
def x306 (m : Mem F) (ρ : Dev nD → PrngReg) (c : Dev nD) : FVec F S128x256 .bf16 := k0_pay58 (x305 m ρ c)
def x310 (m : Mem F) (ρ : Dev nD → PrngReg) (c : Dev nD) : FVec F S128x256 .bf16 := k0_pay59 (x309 m ρ c)
def x313 (m : Mem F) (ρ : Dev nD → PrngReg) (c : Dev nD) : FVec F S128x128 .f32 := k0_pay60 (x99 m ρ c) (x305 m ρ c)
def x314 (m : Mem F) (ρ : Dev nD → PrngReg) (c : Dev nD) : FVec F S128x128 .f32 := k0_pay61 (F := F)
def x321 (m : Mem F) (ρ : Dev nD → PrngReg) (c : Dev nD) : FVec F S128x1 .f32 := k0_pay63 (x156 m ρ c) (x302 m ρ c) (x313 m ρ c) (x314 m ρ c)
def x325 (m : Mem F) (ρ : Dev nD → PrngReg) (c : Dev nD) : FVec F S128x64 .f32 := k0_pay64 (x160 m ρ c) (x302 m ρ c) (x310 m ρ c) (x313 m ρ c) (x314 m ρ c)
def x336 (m : Mem F) (ρ : Dev nD → PrngReg) (c : Dev nD) : FVec F S128x1 .f32 := k0_pay66 (x99 m ρ c) (x171 m ρ c) (x302 m ρ c) (x306 m ρ c)
def x340 (m : Mem F) (ρ : Dev nD → PrngReg) (c : Dev nD) : FVec F S128x64 .f32 := k0_pay67 (x99 m ρ c) (x175 m ρ c) (x302 m ρ c) (x306 m ρ c) (x310 m ρ c)
def x351 (m : Mem F) (ρ : Dev nD → PrngReg) (c : Dev nD) : FVec F S128x1 .f32 := k0_pay69 (x99 m ρ c) (x186 m ρ c) (x302 m ρ c) (x306 m ρ c)
def x355 (m : Mem F) (ρ : Dev nD → PrngReg) (c : Dev nD) : FVec F S128x64 .f32 := k0_pay70 (x99 m ρ c) (x190 m ρ c) (x302 m ρ c) (x306 m ρ c) (x310 m ρ c)
def x358 (m : Mem F) (ρ : Dev nD → PrngReg) (c : Dev nD) : FVec F S128x128 .f32 := k0_pay71 (x99 m ρ c) (x306 m ρ c)
def x359 (m : Mem F) (ρ : Dev nD → PrngReg) (c : Dev nD) : FVec F S128x128 .f32 := k0_pay72 (F := F)
def x373 (m : Mem F) (ρ : Dev nD → PrngReg) (c : Dev nD) : Vec F S1x128x256 .bf16 := (Memref.whole cc0_scratch0).view.readAt (Elt F) (Rect.unit (s := S2x512x256) (k0_off7 c 1#32) S1x128x256.size (k0_off7_inb c 0)).toLoadRect (kG m ρ)
def x377 (m : Mem F) (ρ : Dev nD → PrngReg) (c : Dev nD) : Vec F S1x128x256 .bf16 := (Memref.whole cc0_scratch1).view.readAt (Elt F) (Rect.unit (s := S2x512x256) (k0_off7 c 1#32) S1x128x256.size (k0_off7_inb c 0)).toLoadRect (vG m ρ)
def x366 (m : Mem F) (ρ : Dev nD → PrngReg) (c : Dev nD) : FVec F S128x1 .f32 := k0_pay74 (x201 m ρ c) (x302 m ρ c) (x358 m ρ c) (x359 m ρ c)
def x370 (m : Mem F) (ρ : Dev nD → PrngReg) (c : Dev nD) : FVec F S128x64 .f32 := k0_pay75 (x205 m ρ c) (x302 m ρ c) (x310 m ρ c) (x358 m ρ c) (x359 m ρ c)
def x374 (m : Mem F) (ρ : Dev nD → PrngReg) (c : Dev nD) : FVec F S128x256 .bf16 := k0_pay76 (x373 m ρ c)
def x378 (m : Mem F) (ρ : Dev nD → PrngReg) (c : Dev nD) : FVec F S128x256 .bf16 := k0_pay77 (x377 m ρ c)
def x389 (m : Mem F) (ρ : Dev nD → PrngReg) (c : Dev nD) : FVec F S128x1 .f32 := k0_pay79 (x103 m ρ c) (x224 m ρ c) (x302 m ρ c) (x373 m ρ c)
def x393 (m : Mem F) (ρ : Dev nD → PrngReg) (c : Dev nD) : FVec F S128x64 .f32 := k0_pay80 (x103 m ρ c) (x228 m ρ c) (x302 m ρ c) (x373 m ρ c) (x377 m ρ c)
def x401 (m : Mem F) (ρ : Dev nD → PrngReg) (c : Dev nD) : FVec F S128x128 .f32 := k0_pay81 (x103 m ρ c) (x302 m ρ c) (x373 m ρ c)
def x443 (m : Mem F) (ρ : Dev nD → PrngReg) (c : Dev nD) : BitVec 32 := Scalar.muli (x4 m ρ c) 1#32
def x404 (m : Mem F) (ρ : Dev nD → PrngReg) (c : Dev nD) : FVec F S128x1 .f32 := k0_pay82 (x239 m ρ c) (x401 m ρ c)
def x408 (m : Mem F) (ρ : Dev nD → PrngReg) (c : Dev nD) : FVec F S128x64 .f32 := k0_pay83 (x243 m ρ c) (x378 m ρ c) (x401 m ρ c)
def x419 (m : Mem F) (ρ : Dev nD → PrngReg) (c : Dev nD) : FVec F S128x1 .f32 := k0_pay85 (x103 m ρ c) (x254 m ρ c) (x302 m ρ c) (x374 m ρ c)
def x423 (m : Mem F) (ρ : Dev nD → PrngReg) (c : Dev nD) : FVec F S128x64 .f32 := k0_pay86 (x103 m ρ c) (x258 m ρ c) (x302 m ρ c) (x374 m ρ c) (x378 m ρ c)
def x434 (m : Mem F) (ρ : Dev nD → PrngReg) (c : Dev nD) : FVec F S128x1 .f32 := k0_pay88 (x103 m ρ c) (x269 m ρ c) (x302 m ρ c) (x374 m ρ c)
def x438 (m : Mem F) (ρ : Dev nD → PrngReg) (c : Dev nD) : FVec F S128x64 .f32 := k0_pay89 (x103 m ρ c) (x273 m ρ c) (x302 m ρ c) (x374 m ρ c) (x378 m ρ c)
def x470 (m : Mem F) (ρ : Dev nD → PrngReg) (c : Dev nD) : Vec F S1x128x256 .bf16 := (Memref.whole cc0_scratch0).view.readAt (Elt F) (Rect.unit (s := S2x512x256) (k0_off6 c 3#32) S1x128x256.size (k0_off6_inb c 2)).toLoadRect (kG m ρ)
def x474 (m : Mem F) (ρ : Dev nD → PrngReg) (c : Dev nD) : Vec F S1x128x256 .bf16 := (Memref.whole cc0_scratch1).view.readAt (Elt F) (Rect.unit (s := S2x512x256) (k0_off6 c 3#32) S1x128x256.size (k0_off6_inb c 2)).toLoadRect (vG m ρ)
def xcst_273 (m : Mem F) (ρ : Dev nD → PrngReg) (c : Dev nD) : FVec F S128x128 .f32 := constant S128x128 .f32 0x00000000#32
def x467 (m : Mem F) (ρ : Dev nD → PrngReg) (c : Dev nD) : IVec S128x128 1 := k0_pay90 (x4 m ρ c) (x107 m ρ c) (x108 m ρ c)
def x471 (m : Mem F) (ρ : Dev nD → PrngReg) (c : Dev nD) : FVec F S128x256 .bf16 := k0_pay91 (x470 m ρ c)
def x475 (m : Mem F) (ρ : Dev nD → PrngReg) (c : Dev nD) : FVec F S128x256 .bf16 := k0_pay92 (x474 m ρ c)
def x476 (m : Mem F) (ρ : Dev nD → PrngReg) (c : Dev nD) : FVec F S128x64 .bf16 := k0_pay93 (x99 m ρ c)
def x477 (m : Mem F) (ρ : Dev nD → PrngReg) (c : Dev nD) : FVec F S128x64 .bf16 := k0_pay94 (x470 m ρ c)
def xcst_288 (m : Mem F) (ρ : Dev nD → PrngReg) (c : Dev nD) : FVec F S128x128 .f32 := constant S128x128 .f32 0x00000000#32
def x486 (m : Mem F) (ρ : Dev nD → PrngReg) (c : Dev nD) : FVec F S128x1 .f32 := k0_pay96 (x321 m ρ c) (x467 m ρ c) (x476 m ρ c) (x477 m ρ c) (xcst_273 m ρ c)
def x490 (m : Mem F) (ρ : Dev nD → PrngReg) (c : Dev nD) : FVec F S128x64 .f32 := k0_pay97 (x325 m ρ c) (x467 m ρ c) (x475 m ρ c) (x476 m ρ c) (x477 m ρ c) (xcst_273 m ρ c)
def x501 (m : Mem F) (ρ : Dev nD → PrngReg) (c : Dev nD) : FVec F S128x1 .f32 := k0_pay99 (x99 m ρ c) (x336 m ρ c) (x467 m ρ c) (x471 m ρ c)
def x505 (m : Mem F) (ρ : Dev nD → PrngReg) (c : Dev nD) : FVec F S128x64 .f32 := k0_pay100 (x99 m ρ c) (x340 m ρ c) (x467 m ρ c) (x471 m ρ c) (x475 m ρ c)
def x516 (m : Mem F) (ρ : Dev nD → PrngReg) (c : Dev nD) : FVec F S128x1 .f32 := k0_pay102 (x99 m ρ c) (x351 m ρ c) (x467 m ρ c) (x471 m ρ c)
def x520 (m : Mem F) (ρ : Dev nD → PrngReg) (c : Dev nD) : FVec F S128x64 .f32 := k0_pay103 (x99 m ρ c) (x355 m ρ c) (x467 m ρ c) (x471 m ρ c) (x475 m ρ c)
def x521 (m : Mem F) (ρ : Dev nD → PrngReg) (c : Dev nD) : FVec F S128x64 .bf16 := k0_pay104 (x99 m ρ c)
def x522 (m : Mem F) (ρ : Dev nD → PrngReg) (c : Dev nD) : FVec F S128x64 .bf16 := k0_pay105 (x471 m ρ c)
def x538 (m : Mem F) (ρ : Dev nD → PrngReg) (c : Dev nD) : Vec F S1x128x256 .bf16 := (Memref.whole cc0_scratch0).view.readAt (Elt F) (Rect.unit (s := S2x512x256) (k0_off7 c 3#32) S1x128x256.size (k0_off7_inb c 2)).toLoadRect (kG m ρ)
def x542 (m : Mem F) (ρ : Dev nD → PrngReg) (c : Dev nD) : Vec F S1x128x256 .bf16 := (Memref.whole cc0_scratch1).view.readAt (Elt F) (Rect.unit (s := S2x512x256) (k0_off7 c 3#32) S1x128x256.size (k0_off7_inb c 2)).toLoadRect (vG m ρ)
def x531 (m : Mem F) (ρ : Dev nD → PrngReg) (c : Dev nD) : FVec F S128x1 .f32 := k0_pay107 (x366 m ρ c) (x467 m ρ c) (x521 m ρ c) (x522 m ρ c) (xcst_288 m ρ c)
def x535 (m : Mem F) (ρ : Dev nD → PrngReg) (c : Dev nD) : FVec F S128x64 .f32 := k0_pay108 (x370 m ρ c) (x467 m ρ c) (x475 m ρ c) (x521 m ρ c) (x522 m ρ c) (xcst_288 m ρ c)
def x539 (m : Mem F) (ρ : Dev nD → PrngReg) (c : Dev nD) : FVec F S128x256 .bf16 := k0_pay109 (x538 m ρ c)
def x543 (m : Mem F) (ρ : Dev nD → PrngReg) (c : Dev nD) : FVec F S128x256 .bf16 := k0_pay110 (x542 m ρ c)
def x554 (m : Mem F) (ρ : Dev nD → PrngReg) (c : Dev nD) : FVec F S128x1 .f32 := k0_pay112 (x103 m ρ c) (x389 m ρ c) (x467 m ρ c) (x538 m ρ c)
def x558 (m : Mem F) (ρ : Dev nD → PrngReg) (c : Dev nD) : FVec F S128x64 .f32 := k0_pay113 (x103 m ρ c) (x393 m ρ c) (x467 m ρ c) (x538 m ρ c) (x542 m ρ c)
def x563 (m : Mem F) (ρ : Dev nD → PrngReg) (c : Dev nD) : FVec F S128x128 .f32 := k0_pay114 (x103 m ρ c) (x538 m ρ c)
def x564 (m : Mem F) (ρ : Dev nD → PrngReg) (c : Dev nD) : FVec F S128x128 .f32 := k0_pay115 (F := F)
def x569 (m : Mem F) (ρ : Dev nD → PrngReg) (c : Dev nD) : FVec F S128x1 .f32 := k0_pay117 (x404 m ρ c) (x467 m ρ c) (x563 m ρ c) (x564 m ρ c)
def x573 (m : Mem F) (ρ : Dev nD → PrngReg) (c : Dev nD) : FVec F S128x64 .f32 := k0_pay118 (x408 m ρ c) (x467 m ρ c) (x543 m ρ c) (x563 m ρ c) (x564 m ρ c)
def x584 (m : Mem F) (ρ : Dev nD → PrngReg) (c : Dev nD) : FVec F S128x1 .f32 := k0_pay120 (x103 m ρ c) (x419 m ρ c) (x467 m ρ c) (x539 m ρ c)
def x588 (m : Mem F) (ρ : Dev nD → PrngReg) (c : Dev nD) : FVec F S128x64 .f32 := k0_pay121 (x103 m ρ c) (x423 m ρ c) (x467 m ρ c) (x539 m ρ c) (x543 m ρ c)
def x599 (m : Mem F) (ρ : Dev nD → PrngReg) (c : Dev nD) : FVec F S128x1 .f32 := k0_pay123 (x103 m ρ c) (x434 m ρ c) (x467 m ρ c) (x539 m ρ c)
def x603 (m : Mem F) (ρ : Dev nD → PrngReg) (c : Dev nD) : FVec F S128x64 .f32 := k0_pay124 (x103 m ρ c) (x438 m ρ c) (x467 m ρ c) (x539 m ρ c) (x543 m ρ c)
def x635 (m : Mem F) (ρ : Dev nD → PrngReg) (c : Dev nD) : Vec F S1x128x256 .bf16 := (Memref.whole cc0_scratch0).view.readAt (Elt F) (Rect.unit (s := S2x512x256) (k0_off6 c 2#32) S1x128x256.size (k0_off6_inb c 1)).toLoadRect (kG m ρ)
def x639 (m : Mem F) (ρ : Dev nD → PrngReg) (c : Dev nD) : Vec F S1x128x256 .bf16 := (Memref.whole cc0_scratch1).view.readAt (Elt F) (Rect.unit (s := S2x512x256) (k0_off6 c 2#32) S1x128x256.size (k0_off6_inb c 1)).toLoadRect (vG m ρ)
def x632 (m : Mem F) (ρ : Dev nD → PrngReg) (c : Dev nD) : IVec S128x128 1 := k0_pay125 (x8 m ρ c) (x107 m ρ c) (x108 m ρ c)
def x636 (m : Mem F) (ρ : Dev nD → PrngReg) (c : Dev nD) : FVec F S128x256 .bf16 := k0_pay126 (x635 m ρ c)
def x640 (m : Mem F) (ρ : Dev nD → PrngReg) (c : Dev nD) : FVec F S128x256 .bf16 := k0_pay127 (x639 m ρ c)
def x651 (m : Mem F) (ρ : Dev nD → PrngReg) (c : Dev nD) : FVec F S128x1 .f32 := k0_pay129 (x99 m ρ c) (x486 m ρ c) (x632 m ρ c) (x636 m ρ c)
def x655 (m : Mem F) (ρ : Dev nD → PrngReg) (c : Dev nD) : FVec F S128x64 .f32 := k0_pay130 (x99 m ρ c) (x490 m ρ c) (x632 m ρ c) (x636 m ρ c) (x640 m ρ c)
def x666 (m : Mem F) (ρ : Dev nD → PrngReg) (c : Dev nD) : FVec F S128x1 .f32 := k0_pay132 (x99 m ρ c) (x501 m ρ c) (x632 m ρ c) (x636 m ρ c)
def x670 (m : Mem F) (ρ : Dev nD → PrngReg) (c : Dev nD) : FVec F S128x64 .f32 := k0_pay133 (x99 m ρ c) (x505 m ρ c) (x632 m ρ c) (x636 m ρ c) (x640 m ρ c)
def x681 (m : Mem F) (ρ : Dev nD → PrngReg) (c : Dev nD) : FVec F S128x1 .f32 := k0_pay135 (x99 m ρ c) (x516 m ρ c) (x632 m ρ c) (x636 m ρ c)
def x685 (m : Mem F) (ρ : Dev nD → PrngReg) (c : Dev nD) : FVec F S128x64 .f32 := k0_pay136 (x99 m ρ c) (x520 m ρ c) (x632 m ρ c) (x636 m ρ c) (x640 m ρ c)
def x703 (m : Mem F) (ρ : Dev nD → PrngReg) (c : Dev nD) : Vec F S1x128x256 .bf16 := (Memref.whole cc0_scratch0).view.readAt (Elt F) (Rect.unit (s := S2x512x256) (k0_off7 c 2#32) S1x128x256.size (k0_off7_inb c 1)).toLoadRect (kG m ρ)
def x707 (m : Mem F) (ρ : Dev nD → PrngReg) (c : Dev nD) : Vec F S1x128x256 .bf16 := (Memref.whole cc0_scratch1).view.readAt (Elt F) (Rect.unit (s := S2x512x256) (k0_off7 c 2#32) S1x128x256.size (k0_off7_inb c 1)).toLoadRect (vG m ρ)
def x696 (m : Mem F) (ρ : Dev nD → PrngReg) (c : Dev nD) : FVec F S128x1 .f32 := k0_pay138 (x99 m ρ c) (x531 m ρ c) (x632 m ρ c) (x636 m ρ c)
def x700 (m : Mem F) (ρ : Dev nD → PrngReg) (c : Dev nD) : FVec F S128x64 .f32 := k0_pay139 (x99 m ρ c) (x535 m ρ c) (x632 m ρ c) (x636 m ρ c) (x640 m ρ c)
def x704 (m : Mem F) (ρ : Dev nD → PrngReg) (c : Dev nD) : FVec F S128x256 .bf16 := k0_pay140 (x703 m ρ c)
def x708 (m : Mem F) (ρ : Dev nD → PrngReg) (c : Dev nD) : FVec F S128x256 .bf16 := k0_pay141 (x707 m ρ c)
def x719 (m : Mem F) (ρ : Dev nD → PrngReg) (c : Dev nD) : FVec F S128x1 .f32 := k0_pay143 (x103 m ρ c) (x554 m ρ c) (x632 m ρ c) (x703 m ρ c)
def x723 (m : Mem F) (ρ : Dev nD → PrngReg) (c : Dev nD) : FVec F S128x64 .f32 := k0_pay144 (x103 m ρ c) (x558 m ρ c) (x632 m ρ c) (x703 m ρ c) (x707 m ρ c)
def x726 (m : Mem F) (ρ : Dev nD → PrngReg) (c : Dev nD) : FVec F S128x128 .f32 := k0_pay145 (x103 m ρ c) (x703 m ρ c)
def x727 (m : Mem F) (ρ : Dev nD → PrngReg) (c : Dev nD) : FVec F S128x128 .f32 := k0_pay146 (F := F)
def x734 (m : Mem F) (ρ : Dev nD → PrngReg) (c : Dev nD) : FVec F S128x1 .f32 := k0_pay148 (x569 m ρ c) (x632 m ρ c) (x726 m ρ c) (x727 m ρ c)
def x738 (m : Mem F) (ρ : Dev nD → PrngReg) (c : Dev nD) : FVec F S128x64 .f32 := k0_pay149 (x573 m ρ c) (x632 m ρ c) (x708 m ρ c) (x726 m ρ c) (x727 m ρ c)
def x749 (m : Mem F) (ρ : Dev nD → PrngReg) (c : Dev nD) : FVec F S128x1 .f32 := k0_pay151 (x103 m ρ c) (x584 m ρ c) (x632 m ρ c) (x704 m ρ c)
def x753 (m : Mem F) (ρ : Dev nD → PrngReg) (c : Dev nD) : FVec F S128x64 .f32 := k0_pay152 (x103 m ρ c) (x588 m ρ c) (x632 m ρ c) (x704 m ρ c) (x708 m ρ c)
def x764 (m : Mem F) (ρ : Dev nD → PrngReg) (c : Dev nD) : FVec F S128x1 .f32 := k0_pay154 (x103 m ρ c) (x599 m ρ c) (x632 m ρ c) (x704 m ρ c)
def x768 (m : Mem F) (ρ : Dev nD → PrngReg) (c : Dev nD) : FVec F S128x64 .f32 := k0_pay155 (x103 m ρ c) (x603 m ρ c) (x632 m ρ c) (x704 m ρ c) (x708 m ρ c)
def x771 (m : Mem F) (ρ : Dev nD → PrngReg) (c : Dev nD) : FVec F S128x64 .bf16 := k0_pay156 (x651 m ρ c) (x655 m ρ c)
def x774 (m : Mem F) (ρ : Dev nD → PrngReg) (c : Dev nD) : FVec F S128x64 .bf16 := k0_pay157 (x666 m ρ c) (x670 m ρ c)

/-- The two stores: the result's rows of either batch. -/
def x785 (m : Mem F) (ρ : Dev nD → PrngReg) (c : Dev nD) : FVec F S1x128x512 .f32 :=
  k0_pay158 (x95 m ρ c) (x681 m ρ c) (x685 m ρ c) (x696 m ρ c) (x700 m ρ c) (x771 m ρ c) (x774 m ρ c)
def x802 (m : Mem F) (ρ : Dev nD → PrngReg) (c : Dev nD) : FVec F S1x128x512 .f32 :=
  k0_pay159 (x95 m ρ c) (x719 m ρ c) (x723 m ρ c) (x734 m ρ c) (x738 m ρ c) (x749 m ρ c) (x753 m ρ c) (x764 m ρ c) (x768 m ρ c)

/-- A row of the result within its batch. -/
def inBatch (i : S2x128x512.Idx) : S1x128x512.Idx := fun a => match a with
  | ⟨0, _⟩ => (⟨0, by decide⟩ : Fin 1)
  | ⟨1, _⟩ => (⟨(i 1).val, (i 1).isLt⟩ : Fin 128)
  | ⟨2, _⟩ => (⟨(i 2).val, (i 2).isLt⟩ : Fin 512)

/-- The result on device `c`. -/
def outAt (m : Mem F) (ρ : Dev nD → PrngReg) (c : Dev nD) : (cc0_stg5_0 : Ref sig .tc).ty.Contents (Elt F) :=
  fun i => if (i 0).val = 0 then x785 m ρ c (inBatch i) else x802 m ρ c (inBatch i)

end Cert.IdealRun
-- ==== Proof.IdealParts.lean ====
/-
# The parts of the kernel's body, each from what it needs to what it leaves
-/
module

public import proofs.«01_k».proof.Proof.IdealMoves
public import proofs.«01_k».proof.Proof.IdealVals

@[expose] public section

noncomputable section

namespace Cert.IdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F) (ρ : Dev nD → PrngReg) (K : Dev nD × Option (Fin 12) → ℕ)

/-- A staged buffer held whole. -/
abbrev stP (c : Dev nD) (b : Ref sig .tc) (X : b.ty.Contents (Elt F)) : sProp 𝕄 := ((c : Thread nD τ).loc b) ↦{fullShare} X

/-! ## The offsets of the windows read, by the device whose block they lie in -/

theorem o5_1 (c : Dev nD) : k0_off5 c 1#32 = ![0, 128 * (peer 1 c).val, 0] := by revert c; decide +kernel
theorem o5_3 (c : Dev nD) : k0_off5 c 3#32 = ![0, 128 * (peer 0 c).val, 0] := by revert c; decide +kernel
theorem o5_2 (c : Dev nD) : k0_off5 c 2#32 = ![0, 128 * (peer 2 c).val, 0] := by revert c; decide +kernel
theorem o6_1 (c : Dev nD) : k0_off6 c 1#32 = ![0, 128 * (peer 1 c).val, 0] := by revert c; decide +kernel
theorem o6_3 (c : Dev nD) : k0_off6 c 3#32 = ![0, 128 * (peer 0 c).val, 0] := by revert c; decide +kernel
theorem o6_2 (c : Dev nD) : k0_off6 c 2#32 = ![0, 128 * (peer 2 c).val, 0] := by revert c; decide +kernel
theorem o7_1 (c : Dev nD) : k0_off7 c 1#32 = ![1, 128 * (peer 1 c).val, 0] := by revert c; decide +kernel
theorem o7_3 (c : Dev nD) : k0_off7 c 3#32 = ![1, 128 * (peer 0 c).val, 0] := by revert c; decide +kernel
theorem o7_2 (c : Dev nD) : k0_off7 c 2#32 = ![1, 128 * (peer 2 c).val, 0] := by revert c; decide +kernel

theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem x16_eq (c : Dev nD) : x16 m ρ c = kS m ρ c := Memref.readAt_unit_zero (Elt F) cc0_stg2_0 hz4 _ _
theorem x24_eq (c : Dev nD) : x24 m ρ c = vS m ρ c := Memref.readAt_unit_zero (Elt F) cc0_stg3_0 hz4 _ _
theorem off1_eq (c : Dev nD) : k0_off1 c = k0_off2 c := (k0_off1_eq c).trans (k0_off2_eq c).symm

/-! ## The result's two stores -/

abbrev out0 : Rect S2x128x512 := Rect.unit (s := S2x128x512) ![0, 0, 0] S1x128x512.size inb_S2x128x512_S1x128x512_0_0_0
abbrev out1 : Rect S2x128x512 := Rect.unit (s := S2x128x512) ![1, 0, 0] S1x128x512.size inb_S2x128x512_S1x128x512_1_0_0
abbrev oM : Memref sig .tc .vmem S2x128x512 .f32 := Memref.whole cc0_stg5_0

theorem inBatch_out0 (x : S1x128x512.Idx) : inBatch (out0.idx x) = x ∧ ((out0.idx x) 0).val = 0 := by
  have h0 : (x 0).val < 1 := (x 0).isLt
  constructor
  · funext a
    fin_cases a
    · refine Fin.ext ?_; show 0 = (x 0).val; omega
    · refine Fin.ext ?_; show 0 + 1 * (x 1).val = (x 1).val; omega
    · refine Fin.ext ?_; show 0 + 1 * (x 2).val = (x 2).val; omega
  · show 0 + 1 * (x 0).val = 0; omega
theorem inBatch_out1 (x : S1x128x512.Idx) : inBatch (out1.idx x) = x ∧ ((out1.idx x) 0).val = 1 := by
  have h0 : (x 0).val < 1 := (x 0).isLt
  constructor
  · funext a
    fin_cases a
    · refine Fin.ext ?_; show 0 = (x 0).val; omega
    · refine Fin.ext ?_; show 0 + 1 * (x 1).val = (x 1).val; omega
    · refine Fin.ext ?_; show 0 + 1 * (x 2).val = (x 2).val; omega
  · show 1 + 1 * (x 0).val = 1; omega

/-- The two stores leave the result, whatever was there. -/
theorem write_out (c : Dev nD) (f : (cc0_stg5_0 : Ref sig .tc).ty.Contents (Elt F)) :
    (oM.access out1).write (Elt F) ((oM.access out0).write (Elt F) f (x785 m ρ c) Finset.univ) (x802 m ρ c) Finset.univ = outAt m ρ c := by
  have e1 : ∀ (g : (cc0_stg5_0 : Ref sig .tc).ty.Contents (Elt F)) (x : S1x128x512.Idx),
      (oM.access out1).write (Elt F) g (x802 m ρ c) Finset.univ (out1.idx x) = x802 m ρ c x := fun g x =>
    View.write_emb_of_mem (v := oM.access out1) g (x802 m ρ c) (Finset.mem_univ x)
  have e0 : ∀ (g : (cc0_stg5_0 : Ref sig .tc).ty.Contents (Elt F)) (x : S1x128x512.Idx),
      (oM.access out0).write (Elt F) g (x785 m ρ c) Finset.univ (out0.idx x) = x785 m ρ c x := fun g x =>
    View.write_emb_of_mem (v := oM.access out0) g (x785 m ρ c) (Finset.mem_univ x)
  funext i
  have hi : (i 0).val < 2 := (i 0).isLt
  by_cases h : (i 0).val = 0
  · have hx : i = out0.idx (inBatch i) := by
      funext a
      fin_cases a
      · refine Fin.ext ?_; show (i 0).val = 0 + 1 * 0; omega
      · refine Fin.ext ?_; show (i 1).val = 0 + 1 * (i 1).val; omega
      · refine Fin.ext ?_; show (i 2).val = 0 + 1 * (i 2).val; omega
    have hn : i ∉ (oM.access out1).setOn Finset.univ := by
      intro hm
      obtain ⟨x, -, e⟩ := Finset.mem_map.mp hm
      have e2 : i = out1.idx x := e.symm
      have := (inBatch_out1 x).2
      rw [← e2] at this
      omega
    rw [View.write_of_not_mem (v := oM.access out1) _ _ _ hn]
    unfold outAt
    rw [if_pos h]
    conv_lhs => rw [hx]
    exact e0 f _
  · have hx : i = out1.idx (inBatch i) := by
      funext a
      fin_cases a
      · refine Fin.ext ?_; show (i 0).val = 1 + 1 * 0; omega
      · refine Fin.ext ?_; show (i 1).val = 0 + 1 * (i 1).val; omega
      · refine Fin.ext ?_; show (i 2).val = 0 + 1 * (i 2).val; omega
    unfold outAt
    rw [if_neg h]
    conv_lhs => rw [hx]
    exact e1 _ _

/-! ## The parts -/

theorem part1_wp (c : Dev nD) {α : Type} {Q : α → sProp 𝕄} {k : _ → Prog (TpuEff nD τ sig (Elt F) Λ₀ .tc) α} :
    iprop(recs m ρ K
          ∗ levAts L lv
          ∗ ow (F := F) c (O0 c)
          ∗ dutyTok ER (barCell (peer 0 c)) 0 (back 0)
          ∗ dutyTok ER (barCell (peer 1 c)) 0 (back 1)
          ∗ dutyTok ER (barCell (peer 2 c)) 0 (back 2)
          ∗ (∃ f : Full F, stP c cc0_scratch0 f)
          ∗ (∃ f : Full F, stP c cc0_scratch1 f)
          ∗ cred (tallyAt (barCell c) () 3)
          ∗ atPos ER (barCell c) 0 ∅ 0
          ∗ stP c cc0_stg2_0 (kS m ρ c))
      ⊢ iprop(((ow (F := F) c (O3 c)
          ∗ atPos ER (barCell c) 1 ∅ 0
          ∗ barPay (F := F) c 0
          ∗ barPay (F := F) c 1
          ∗ barPay (F := F) c 2
          ∗ kPts c c fullShare (kG m ρ)
          ∗ (∃ f : Full F, vPts c c fullShare f)
          ∗ stP c cc0_stg2_0 (kS m ρ c)) -∗ WP c (k ⟨c, x2 m ρ c, x4 m ρ c, x6 m ρ c, x8 m ρ c⟩) Q)
        -∗ WP c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5  >>= k) Q) := by
  rw [k0_part1_eq_skeleton]; unfold k0_part1_skel
  simp only [semSignalWord, semWaitWord, Prog.lift, Prog.bind_op, Prog.bind_ret, Prog.pure_eq_ret, Prog.bind_assoc, wp_deviceId]
  iintro ⟨#HR, #Hlev, HO, Ht0, Ht1, Ht2, ⟨%fk, Hk⟩, ⟨%fv, Hv⟩, Hcr, Hat, Hs⟩ Hc
  ihave Hk := (k_blocks c fk).1 $$ Hk
  icases Hk with ⟨Hk, Hk0, Hk1, Hk2⟩
  ihave Hv := (v_blocks c fv).1 $$ Hv
  icases Hv with ⟨Hv, Hv0, Hv1, Hv2⟩
  iapply (wp_sig m ρ K c _ 0 (dev1_eq c) (O0 c) (O1 c) rfl) $$ [HO Ht0 Hk0 Hv0]
  · isplitr; · iexact HR
    isplitl [HO]; · iexact HO
    isplitl [Ht0]; · iexact Ht0
    isplitl [Hk0]; · iexists fk; iexact Hk0
    iexists fv; iexact Hv0
  iintro HO
  iapply (wp_sig m ρ K c _ 1 (dev2_eq c) (O1 c) (O2 c) rfl) $$ [HO Ht1 Hk1 Hv1]
  · isplitr; · iexact HR
    isplitl [HO]; · iexact HO
    isplitl [Ht1]; · iexact Ht1
    isplitl [Hk1]; · iexists fk; iexact Hk1
    iexists fv; iexact Hv1
  iintro HO
  iapply (wp_sig m ρ K c _ 2 (dev3_eq c) (O2 c) (O3 c) rfl) $$ [HO Ht2 Hk2 Hv2]
  · isplitr; · iexact HR
    isplitl [HO]; · iexact HO
    isplitl [Ht2]; · iexact Ht2
    isplitl [Hk2]; · iexists fk; iexact Hk2
    iexists fv; iexact Hv2
  iintro HO
  iapply (wp_bar m ρ K c) $$ [Hcr HO Hat]
  · isplitr; · iexact HR
    isplitr; · iexact Hlev
    isplitl [Hcr]; · iexact Hcr
    isplitl [HO]; · iexact HO
    iexact Hat
  iintro ⟨HO, Hat, Hp0, Hp1, Hp2⟩
  iapply (wp_load 𝒱₀ (c : Thread nD τ) none Set.univ (m := Memref.whole cc0_stg2_0) (Finset.subset_univ _)) $$ Hs; iintro Hs
  rw [show (Memref.whole cc0_stg2_0 : Memref sig .tc .vmem S2x128x4x64 .bf16).view.readAt (Elt F) (Rect.unit (s := S2x128x4x64) ![0, 0, 0, 0] S2x128x4x64.size inb_S2x128x4x64_S2x128x4x64_0_0_0_0).toLoadRect (kS m ρ c) = kS m ρ c from x16_eq m ρ c]
  iapply (wp_ownK m ρ c fk (off1_eq c)) $$ Hk; iintro Hk
  iapply Hc
  isplitl [HO]; · iexact HO
  isplitl [Hat]; · iexact Hat
  isplitl [Hp0]; · iexact Hp0
  isplitl [Hp1]; · iexact Hp1
  isplitl [Hp2]; · iexact Hp2
  isplitl [Hk]; · iexact Hk
  isplitl [Hv]; · iexists fv; iexact Hv
  iexact Hs

theorem part2_wp (c : Dev nD) {α : Type} {Q : α → sProp 𝕄} {k : _ → Prog (TpuEff nD τ sig (Elt F) Λ₀ .tc) α} :
    iprop(recs m ρ K
          ∗ stP c cc0_stg3_0 (vS m ρ c)
          ∗ (∃ f : Full F, vPts c c fullShare f)
          ∗ kPts c c (shr 0) (kG m ρ)
          ∗ (∃ f : Full F, kPts (peer 0 c) c fullShare f)
          ∗ (∃ f : Full F, vPts (peer 0 c) c fullShare f)
          ∗ ow (F := F) c (O3 c)
          ∗ dutyTok ER (xCell c 0) 0 0
          ∗ dutyTok ER (xCell (peer 0 c) 3) 0 0
          ∗ dutyTok ER (xCell c 6) 0 0
          ∗ dutyTok ER (xCell (peer 0 c) 9) 0 0)
      ⊢ iprop(((stP c cc0_stg3_0 (vS m ρ c)
          ∗ vPts c c (shr 1) (vG m ρ)
          ∗ vPts c c (shr 2) (vG m ρ)
          ∗ vPts c c (shr 3) (vG m ρ)
          ∗ ow (F := F) c (O5 c)
          ∗ cred (tallyAt (xCell c 0) () N)
          ∗ cred (tallyAt (xCell c 6) () N)) -∗ WP c (k ⟨⟩) Q)
        -∗ WP c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5 c (x2 m ρ c) (x4 m ρ c) >>= k) Q) := by
  rw [k0_part2_eq_skeleton]; unfold k0_part2_skel
  simp only [semSignalWord, semWaitWord, Prog.lift, Prog.bind_op, Prog.bind_ret, Prog.pure_eq_ret, Prog.bind_assoc, wp_deviceId]
  iintro ⟨#HR, Hs, ⟨%fv, Hv⟩, Hk0, Hdk0, Hdv0, HO, Ht0, Ht3, Ht6, Ht9⟩ Hc
  iapply (wp_load 𝒱₀ (c : Thread nD τ) none Set.univ (m := Memref.whole cc0_stg3_0) (Finset.subset_univ _)) $$ Hs; iintro Hs
  rw [show (Memref.whole cc0_stg3_0 : Memref sig .tc .vmem S2x128x4x64 .bf16).view.readAt (Elt F) (Rect.unit (s := S2x128x4x64) ![0, 0, 0, 0] S2x128x4x64.size inb_S2x128x4x64_S2x128x4x64_0_0_0_0).toLoadRect (vS m ρ c) = vS m ρ c from x24_eq m ρ c]
  iapply (wp_ownV m ρ c fv (off1_eq c)) $$ Hv; iintro Hv
  ihave Hv := (v_shares c c (vG m ρ)).1 $$ Hv
  icases Hv with ⟨⟨Hv0, Hv1⟩, Hv2, Hv3⟩
  iapply (wp_sendK m ρ K c _ 0 (dev4_eq c) 0 3 ks0_eq kr0_eq (shr 0) rfl (land0_k m ρ c) (O3 c) (O4 c) rfl) $$ [Hk0 Hdk0 HO Ht0 Ht3]
  · isplitr; · iexact HR
    isplitl [Hk0]; · iexact Hk0
    isplitl [Hdk0]; · iexact Hdk0
    isplitl [HO]; · iexact HO
    isplitl [Ht0]; · iexact Ht0
    iexact Ht3
  iintro ⟨Hc0, HO⟩
  iapply (wp_sendV m ρ K c _ 0 (dev5_eq c) 6 9 vs0_eq vr0_eq (shr 0) rfl (land0_v m ρ c) (O4 c) (O5 c) rfl) $$ [Hv0 Hdv0 HO Ht6 Ht9]
  · isplitr; · iexact HR
    isplitl [Hv0]; · iexact Hv0
    isplitl [Hdv0]; · iexact Hdv0
    isplitl [HO]; · iexact HO
    isplitl [Ht6]; · iexact Ht6
    iexact Ht9
  iintro ⟨Hc6, HO⟩
  iapply Hc
  isplitl [Hs]; · iexact Hs
  isplitl [Hv1]; · iexact Hv1
  isplitl [Hv2]; · iexact Hv2
  isplitl [Hv3]; · iexact Hv3
  isplitl [HO]; · iexact HO
  isplitl [Hc0]; · iexact Hc0
  iexact Hc6

theorem part3_wp (c : Dev nD) {α : Type} {Q : α → sProp 𝕄} {k : _ → Prog (TpuEff nD τ sig (Elt F) Λ₀ .tc) α} :
    iprop(recs m ρ K
          ∗ kPts c c (shr 1) (kG m ρ)
          ∗ vPts c c (shr 1) (vG m ρ)
          ∗ kPts c c (shr 2) (kG m ρ)
          ∗ (∃ f : Full F, kPts (peer 1 c) c fullShare f)
          ∗ (∃ f : Full F, vPts (peer 1 c) c fullShare f)
          ∗ (∃ f : Full F, kPts (peer 2 c) c fullShare f)
          ∗ ow (F := F) c (O5 c)
          ∗ dutyTok ER (xCell c 1) 0 0
          ∗ dutyTok ER (xCell (peer 1 c) 4) 0 0
          ∗ dutyTok ER (xCell c 7) 0 0
          ∗ dutyTok ER (xCell (peer 1 c) 10) 0 0
          ∗ dutyTok ER (xCell c 2) 0 0
          ∗ dutyTok ER (xCell (peer 2 c) 5) 0 0)
      ⊢ iprop(((ow (F := F) c (O8 c)
          ∗ cred (tallyAt (xCell c 1) () N)
          ∗ cred (tallyAt (xCell c 7) () N)
          ∗ cred (tallyAt (xCell c 2) () N)) -∗ WP c (k (xc128_i32_76 m ρ c)) Q)
        -∗ WP c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5 c (x2 m ρ c) (x6 m ρ c) (x8 m ρ c) >>= k) Q) := by
  rw [k0_part3_eq_skeleton]; unfold k0_part3_skel
  simp only [semSignalWord, semWaitWord, Prog.lift, Prog.bind_op, Prog.bind_ret, Prog.pure_eq_ret, Prog.bind_assoc, wp_deviceId]
  iintro ⟨#HR, Hk1, Hv1, Hk2, Hdk1, Hdv1, Hdk2, HO, Ht1, Ht4, Ht7, Ht10, Ht2, Ht5⟩ Hc
  iapply (wp_sendK m ρ K c _ 1 (dev6_eq c) 1 4 ks1_eq kr1_eq (shr 1) rfl (land1_k m ρ c) (O5 c) (O6 c) rfl) $$ [Hk1 Hdk1 HO Ht1 Ht4]
  · isplitr; · iexact HR
    isplitl [Hk1]; · iexact Hk1
    isplitl [Hdk1]; · iexact Hdk1
    isplitl [HO]; · iexact HO
    isplitl [Ht1]; · iexact Ht1
    iexact Ht4
  iintro ⟨Hc1, HO⟩
  iapply (wp_sendV m ρ K c _ 1 (dev7_eq c) 7 10 vs1_eq vr1_eq (shr 1) rfl (land1_v m ρ c) (O6 c) (O7 c) rfl) $$ [Hv1 Hdv1 HO Ht7 Ht10]
  · isplitr; · iexact HR
    isplitl [Hv1]; · iexact Hv1
    isplitl [Hdv1]; · iexact Hdv1
    isplitl [HO]; · iexact HO
    isplitl [Ht7]; · iexact Ht7
    iexact Ht10
  iintro ⟨Hc7, HO⟩
  iapply (wp_sendK m ρ K c _ 2 (dev8_eq c) 2 5 ks2_eq kr2_eq (shr 2) rfl (land2_k m ρ c) (O7 c) (O8 c) rfl) $$ [Hk2 Hdk2 HO Ht2 Ht5]
  · isplitr; · iexact HR
    isplitl [Hk2]; · iexact Hk2
    isplitl [Hdk2]; · iexact Hdk2
    isplitl [HO]; · iexact HO
    isplitl [Ht2]; · iexact Ht2
    iexact Ht5
  iintro ⟨Hc2, HO⟩
  iapply Hc
  isplitl [HO]; · iexact HO
  isplitl [Hc1]; · iexact Hc1
  isplitl [Hc7]; · iexact Hc7
  iexact Hc2

theorem part4_wp (c : Dev nD) {α : Type} {Q : α → sProp 𝕄} {k : _ → Prog (TpuEff nD τ sig (Elt F) Λ₀ .tc) α} :
    iprop(recs m ρ K
          ∗ vPts c c (shr 2) (vG m ρ)
          ∗ (∃ f : Full F, vPts (peer 2 c) c fullShare f)
          ∗ ow (F := F) c (O8 c)
          ∗ dutyTok ER (xCell c 8) 0 0
          ∗ dutyTok ER (xCell (peer 2 c) 11) 0 0
          ∗ stP c cc0_stg0_0 (xS m ρ c)
          ∗ stP c cc0_stg1_0 (wqS m ρ c)
          ∗ stP c cc0_stg4_0 (woS m ρ c))
      ⊢ iprop(((ow (F := F) c 0
          ∗ cred (tallyAt (xCell c 8) () N)
          ∗ stP c cc0_stg0_0 (xS m ρ c)
          ∗ stP c cc0_stg1_0 (wqS m ρ c)
          ∗ stP c cc0_stg4_0 (woS m ρ c)) -∗ WP c (k ⟨x95 m ρ c, x99 m ρ c, x103 m ρ c, x107 m ρ c, x108 m ρ c, x109 m ρ c, x110 m ρ c, x111 m ρ c, x112 m ρ c, x113 m ρ c, x114 m ρ c⟩) Q)
        -∗ WP c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5 c (x2 m ρ c) (x8 m ρ c) (xc128_i32_76 m ρ c) >>= k) Q) := by
  rw [k0_part4_eq_skeleton]; unfold k0_part4_skel
  simp only [semSignalWord, semWaitWord, Prog.lift, Prog.bind_op, Prog.bind_ret, Prog.pure_eq_ret, Prog.bind_assoc, wp_deviceId]
  iintro ⟨#HR, Hv2, Hdv2, HO, Ht8, Ht11, Hx, Hwq, Hwo⟩ Hc
  iapply (wp_sendV m ρ K c _ 2 (dev9_eq c) 8 11 vs2_eq vr2_eq (shr 2) rfl (land2_v m ρ c) (O8 c) (O9 c) rfl) $$ [Hv2 Hdv2 HO Ht8 Ht11]
  · isplitr; · iexact HR
    isplitl [Hv2]; · iexact Hv2
    isplitl [Hdv2]; · iexact Hdv2
    isplitl [HO]; · iexact HO
    isplitl [Ht8]; · iexact Ht8
    iexact Ht11
  iintro ⟨Hc8, HO⟩
  iapply (wp_load 𝒱₀ (c : Thread nD τ) none Set.univ (m := Memref.whole cc0_stg1_0) (Finset.subset_univ _)) $$ Hwq; iintro Hwq
  iapply (wp_load 𝒱₀ (c : Thread nD τ) none Set.univ (m := Memref.whole cc0_stg4_0) (Finset.subset_univ _)) $$ Hwo; iintro Hwo
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg0_0) (Finset.subset_univ _)) $$ Hx; iintro Hx
  iapply Hc
  isplitl [HO]; · iexact HO
  isplitl [Hc8]; · iexact Hc8
  isplitl [Hx]; · iexact Hx
  isplitl [Hwq]; · iexact Hwq
  iexact Hwo

theorem part5_wp (c : Dev nD) {α : Type} {Q : α → sProp 𝕄} {k : _ → Prog (TpuEff nD τ sig (Elt F) Λ₀ .tc) α} :
    iprop(kPts c c (shr 3) (kG m ρ) ∗ vPts c c (shr 3) (vG m ρ))
      ⊢ iprop(((kPts c c (shr 3) (kG m ρ) ∗ vPts c c (shr 3) (vG m ρ)) -∗ WP c (k ⟨x115 m ρ c, x116 m ρ c, x117 m ρ c, x118 m ρ c, x119 m ρ c, x120 m ρ c, x121 m ρ c, x122 m ρ c, x123 m ρ c, x124 m ρ c, x137 m ρ c, x141 m ρ c, x145 m ρ c, x150 m ρ c, x151 m ρ c⟩) Q)
        -∗ WP c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5 c (x2 m ρ c) (x99 m ρ c) (x107 m ρ c) (x108 m ρ c) >>= k) Q) := by
  rw [k0_part5_eq_skeleton]; unfold k0_part5_skel
  simp only [semSignalWord, semWaitWord, Prog.lift, Prog.bind_op, Prog.bind_ret, Prog.pure_eq_ret, Prog.bind_assoc, wp_deviceId]
  iintro ⟨Hk, Hv⟩ Hc
  iapply (wp_loadK c c (shr 3) 0 (k0_off3_eq c) (kG m ρ)) $$ Hk; iintro Hk
  iapply (wp_loadV c c (shr 3) 0 (k0_off3_eq c) (vG m ρ)) $$ Hv; iintro Hv
  iapply Hc
  isplitl [Hk]; · iexact Hk
  iexact Hv

theorem part7_wp (c : Dev nD) {α : Type} {Q : α → sProp 𝕄} {k : _ → Prog (TpuEff nD τ sig (Elt F) Λ₀ .tc) α} :
    iprop(kPts c c (shr 3) (kG m ρ) ∗ vPts c c (shr 3) (vG m ρ))
      ⊢ iprop(((kPts c c (shr 3) (kG m ρ) ∗ vPts c c (shr 3) (vG m ρ)) -∗ WP c (k ⟨x201 m ρ c, x205 m ρ c, x209 m ρ c, x213 m ρ c, x224 m ρ c, x228 m ρ c, x236 m ρ c, x239 m ρ c⟩) Q)
        -∗ WP c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5 c (x2 m ρ c) (x103 m ρ c) (x112 m ρ c) (x113 m ρ c) (x120 m ρ c) (x121 m ρ c) (x122 m ρ c) (x137 m ρ c) (x145 m ρ c) (x195 m ρ c) (x196 m ρ c) >>= k) Q) := by
  rw [k0_part7_eq_skeleton]; unfold k0_part7_skel
  simp only [semSignalWord, semWaitWord, Prog.lift, Prog.bind_op, Prog.bind_ret, Prog.pure_eq_ret, Prog.bind_assoc, wp_deviceId]
  iintro ⟨Hk, Hv⟩ Hc
  iapply (wp_loadK c c (shr 3) 1 (k0_off4_eq c) (kG m ρ)) $$ Hk; iintro Hk
  iapply (wp_loadV c c (shr 3) 1 (k0_off4_eq c) (vG m ρ)) $$ Hv; iintro Hv
  iapply Hc
  isplitl [Hk]; · iexact Hk
  iexact Hv

theorem part9_wp (c : Dev nD) {α : Type} {Q : α → sProp 𝕄} {k : _ → Prog (TpuEff nD τ sig (Elt F) Λ₀ .tc) α} :
    iprop(recs m ρ K
          ∗ cred (tallyAt (xCell c 3) () N)
          ∗ cred (tallyAt (xCell c 9) () N)
          ∗ ow (F := F) c 0
          ∗ atPos ER (xCell c 3) 0 ∅ 0
          ∗ atPos ER (xCell c 9) 0 ∅ 0)
      ⊢ iprop(((ow (F := F) c 0
          ∗ atPos ER (xCell c 3) 1 ∅ 0
          ∗ atPos ER (xCell c 9) 1 ∅ 0
          ∗ kPts c (peer 1 c) fullShare (kG m ρ)
          ∗ vPts c (peer 1 c) fullShare (vG m ρ)) -∗ WP c (k ⟨x302 m ρ c, x306 m ρ c, x310 m ρ c, x313 m ρ c, x314 m ρ c⟩) Q)
        -∗ WP c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5 c (x6 m ρ c) (x99 m ρ c) (x107 m ρ c) (x108 m ρ c) >>= k) Q) := by
  rw [k0_part9_eq_skeleton]; unfold k0_part9_skel
  simp only [semSignalWord, semWaitWord, Prog.lift, Prog.bind_op, Prog.bind_ret, Prog.pure_eq_ret, Prog.bind_assoc, wp_deviceId]
  iintro ⟨#HR, Hc1, Hc2, HO, Ha1, Ha2⟩ Hc
  iapply (wp_wait m ρ K c 3 kr0_eq) $$ [Hc1 HO Ha1]
  · isplitr; · iexact HR
    isplitl [Hc1]; · iexact Hc1
    isplitl [HO]; · iexact HO
    iexact Ha1
  iintro ⟨HO, Ha1, Hk⟩
  iapply (wp_wait m ρ K c 9 vr0_eq) $$ [Hc2 HO Ha2]
  · isplitr; · iexact HR
    isplitl [Hc2]; · iexact Hc2
    isplitl [HO]; · iexact HO
    iexact Ha2
  iintro ⟨HO, Ha2, Hv⟩
  dsimp only [xPay]
  iapply (wp_loadK c (peer 1 c) fullShare 0 (o6_1 c) (kG m ρ)) $$ Hk; iintro Hk
  iapply (wp_loadV c (peer 1 c) fullShare 0 (o6_1 c) (vG m ρ)) $$ Hv; iintro Hv
  iapply Hc
  isplitl [HO]; · iexact HO
  isplitl [Ha1]; · iexact Ha1
  isplitl [Ha2]; · iexact Ha2
  isplitl [Hk]; · iexact Hk
  iexact Hv

theorem part11_wp (c : Dev nD) {α : Type} {Q : α → sProp 𝕄} {k : _ → Prog (TpuEff nD τ sig (Elt F) Λ₀ .tc) α} :
    iprop(kPts c (peer 1 c) fullShare (kG m ρ) ∗ vPts c (peer 1 c) fullShare (vG m ρ))
      ⊢ iprop(((kPts c (peer 1 c) fullShare (kG m ρ) ∗ vPts c (peer 1 c) fullShare (vG m ρ)) -∗ WP c (k ⟨x366 m ρ c, x370 m ρ c, x374 m ρ c, x378 m ρ c, x389 m ρ c, x393 m ρ c, x401 m ρ c⟩) Q)
        -∗ WP c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5 c (x6 m ρ c) (x103 m ρ c) (x201 m ρ c) (x205 m ρ c) (x224 m ρ c) (x228 m ρ c) (x302 m ρ c) (x310 m ρ c) (x358 m ρ c) (x359 m ρ c) >>= k) Q) := by
  rw [k0_part11_eq_skeleton]; unfold k0_part11_skel
  simp only [semSignalWord, semWaitWord, Prog.lift, Prog.bind_op, Prog.bind_ret, Prog.pure_eq_ret, Prog.bind_assoc, wp_deviceId]
  iintro ⟨Hk, Hv⟩ Hc
  iapply (wp_loadK c (peer 1 c) fullShare 1 (o7_1 c) (kG m ρ)) $$ Hk; iintro Hk
  iapply (wp_loadV c (peer 1 c) fullShare 1 (o7_1 c) (vG m ρ)) $$ Hv; iintro Hv
  iapply Hc
  isplitl [Hk]; · iexact Hk
  iexact Hv

theorem part13_wp (c : Dev nD) {α : Type} {Q : α → sProp 𝕄} {k : _ → Prog (TpuEff nD τ sig (Elt F) Λ₀ .tc) α} :
    iprop(recs m ρ K
          ∗ cred (tallyAt (xCell c 4) () N)
          ∗ cred (tallyAt (xCell c 10) () N)
          ∗ ow (F := F) c 0
          ∗ atPos ER (xCell c 4) 0 ∅ 0
          ∗ atPos ER (xCell c 10) 0 ∅ 0)
      ⊢ iprop(((ow (F := F) c 0
          ∗ atPos ER (xCell c 4) 1 ∅ 0
          ∗ atPos ER (xCell c 10) 1 ∅ 0
          ∗ kPts c (peer 0 c) fullShare (kG m ρ)
          ∗ vPts c (peer 0 c) fullShare (vG m ρ)) -∗ WP c (k ⟨x467 m ρ c, x471 m ρ c, x475 m ρ c, x476 m ρ c, x477 m ρ c, xcst_273 m ρ c⟩) Q)
        -∗ WP c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5 c (x4 m ρ c) (x99 m ρ c) (x107 m ρ c) (x108 m ρ c) (x443 m ρ c) >>= k) Q) := by
  rw [k0_part13_eq_skeleton]; unfold k0_part13_skel
  simp only [semSignalWord, semWaitWord, Prog.lift, Prog.bind_op, Prog.bind_ret, Prog.pure_eq_ret, Prog.bind_assoc, wp_deviceId]
  iintro ⟨#HR, Hc1, Hc2, HO, Ha1, Ha2⟩ Hc
  iapply (wp_wait m ρ K c 4 kr1_eq) $$ [Hc1 HO Ha1]
  · isplitr; · iexact HR
    isplitl [Hc1]; · iexact Hc1
    isplitl [HO]; · iexact HO
    iexact Ha1
  iintro ⟨HO, Ha1, Hk⟩
  iapply (wp_wait m ρ K c 10 vr1_eq) $$ [Hc2 HO Ha2]
  · isplitr; · iexact HR
    isplitl [Hc2]; · iexact Hc2
    isplitl [HO]; · iexact HO
    iexact Ha2
  iintro ⟨HO, Ha2, Hv⟩
  dsimp only [xPay]
  iapply (wp_loadK c (peer 0 c) fullShare 0 (o6_3 c) (kG m ρ)) $$ Hk; iintro Hk
  iapply (wp_loadV c (peer 0 c) fullShare 0 (o6_3 c) (vG m ρ)) $$ Hv; iintro Hv
  iapply Hc
  isplitl [HO]; · iexact HO
  isplitl [Ha1]; · iexact Ha1
  isplitl [Ha2]; · iexact Ha2
  isplitl [Hk]; · iexact Hk
  iexact Hv

theorem part15_wp (c : Dev nD) {α : Type} {Q : α → sProp 𝕄} {k : _ → Prog (TpuEff nD τ sig (Elt F) Λ₀ .tc) α} :
    iprop(kPts c (peer 0 c) fullShare (kG m ρ) ∗ vPts c (peer 0 c) fullShare (vG m ρ))
      ⊢ iprop(((kPts c (peer 0 c) fullShare (kG m ρ) ∗ vPts c (peer 0 c) fullShare (vG m ρ)) -∗ WP c (k ⟨x531 m ρ c, x535 m ρ c, x539 m ρ c, x543 m ρ c, x554 m ρ c, x558 m ρ c, x563 m ρ c, x564 m ρ c⟩) Q)
        -∗ WP c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5 c (x4 m ρ c) (x103 m ρ c) (x366 m ρ c) (x370 m ρ c) (x389 m ρ c) (x393 m ρ c) (x467 m ρ c) (x475 m ρ c) (x521 m ρ c) (x522 m ρ c) (xcst_288 m ρ c) >>= k) Q) := by
  rw [k0_part15_eq_skeleton]; unfold k0_part15_skel
  simp only [semSignalWord, semWaitWord, Prog.lift, Prog.bind_op, Prog.bind_ret, Prog.pure_eq_ret, Prog.bind_assoc, wp_deviceId]
  iintro ⟨Hk, Hv⟩ Hc
  iapply (wp_loadK c (peer 0 c) fullShare 1 (o7_3 c) (kG m ρ)) $$ Hk; iintro Hk
  iapply (wp_loadV c (peer 0 c) fullShare 1 (o7_3 c) (vG m ρ)) $$ Hv; iintro Hv
  iapply Hc
  isplitl [Hk]; · iexact Hk
  iexact Hv

theorem part17_wp (c : Dev nD) {α : Type} {Q : α → sProp 𝕄} {k : _ → Prog (TpuEff nD τ sig (Elt F) Λ₀ .tc) α} :
    iprop(recs m ρ K
          ∗ cred (tallyAt (xCell c 5) () N)
          ∗ cred (tallyAt (xCell c 11) () N)
          ∗ ow (F := F) c 0
          ∗ atPos ER (xCell c 5) 0 ∅ 0
          ∗ atPos ER (xCell c 11) 0 ∅ 0)
      ⊢ iprop(((ow (F := F) c 0
          ∗ atPos ER (xCell c 5) 1 ∅ 0
          ∗ atPos ER (xCell c 11) 1 ∅ 0
          ∗ kPts c (peer 2 c) fullShare (kG m ρ)
          ∗ vPts c (peer 2 c) fullShare (vG m ρ)) -∗ WP c (k ⟨x632 m ρ c, x636 m ρ c, x640 m ρ c⟩) Q)
        -∗ WP c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5 c (x8 m ρ c) (x107 m ρ c) (x108 m ρ c) >>= k) Q) := by
  rw [k0_part17_eq_skeleton]; unfold k0_part17_skel
  simp only [semSignalWord, semWaitWord, Prog.lift, Prog.bind_op, Prog.bind_ret, Prog.pure_eq_ret, Prog.bind_assoc, wp_deviceId]
  iintro ⟨#HR, Hc1, Hc2, HO, Ha1, Ha2⟩ Hc
  iapply (wp_wait m ρ K c 5 kr2_eq) $$ [Hc1 HO Ha1]
  · isplitr; · iexact HR
    isplitl [Hc1]; · iexact Hc1
    isplitl [HO]; · iexact HO
    iexact Ha1
  iintro ⟨HO, Ha1, Hk⟩
  iapply (wp_wait m ρ K c 11 vr2_eq) $$ [Hc2 HO Ha2]
  · isplitr; · iexact HR
    isplitl [Hc2]; · iexact Hc2
    isplitl [HO]; · iexact HO
    iexact Ha2
  iintro ⟨HO, Ha2, Hv⟩
  dsimp only [xPay]
  iapply (wp_loadK c (peer 2 c) fullShare 0 (o6_2 c) (kG m ρ)) $$ Hk; iintro Hk
  iapply (wp_loadV c (peer 2 c) fullShare 0 (o6_2 c) (vG m ρ)) $$ Hv; iintro Hv
  iapply Hc
  isplitl [HO]; · iexact HO
  isplitl [Ha1]; · iexact Ha1
  isplitl [Ha2]; · iexact Ha2
  isplitl [Hk]; · iexact Hk
  iexact Hv

theorem part19_wp (c : Dev nD) {α : Type} {Q : α → sProp 𝕄} {k : _ → Prog (TpuEff nD τ sig (Elt F) Λ₀ .tc) α} :
    iprop(kPts c (peer 2 c) fullShare (kG m ρ) ∗ vPts c (peer 2 c) fullShare (vG m ρ))
      ⊢ iprop(((kPts c (peer 2 c) fullShare (kG m ρ) ∗ vPts c (peer 2 c) fullShare (vG m ρ)) -∗ WP c (k ⟨x696 m ρ c, x700 m ρ c, x704 m ρ c, x708 m ρ c, x719 m ρ c, x723 m ρ c, x726 m ρ c, x727 m ρ c⟩) Q)
        -∗ WP c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5 c (x8 m ρ c) (x99 m ρ c) (x103 m ρ c) (x531 m ρ c) (x535 m ρ c) (x554 m ρ c) (x558 m ρ c) (x632 m ρ c) (x636 m ρ c) (x640 m ρ c) >>= k) Q) := by
  rw [k0_part19_eq_skeleton]; unfold k0_part19_skel
  simp only [semSignalWord, semWaitWord, Prog.lift, Prog.bind_op, Prog.bind_ret, Prog.pure_eq_ret, Prog.bind_assoc, wp_deviceId]
  iintro ⟨Hk, Hv⟩ Hc
  iapply (wp_loadK c (peer 2 c) fullShare 1 (o7_2 c) (kG m ρ)) $$ Hk; iintro Hk
  iapply (wp_loadV c (peer 2 c) fullShare 1 (o7_2 c) (vG m ρ)) $$ Hv; iintro Hv
  iapply Hc
  isplitl [Hk]; · iexact Hk
  iexact Hv

theorem part21_wp (c : Dev nD) {α : Type} {Q : α → sProp 𝕄} {k : _ → Prog (TpuEff nD τ sig (Elt F) Λ₀ .tc) α} :
    iprop(recs m ρ K
          ∗ (∃ f, stP c cc0_stg5_0 f)
          ∗ cred (tallyAt (xCell c 0) () N)
          ∗ ow (F := F) c 0
          ∗ atPos ER (xCell c 0) 0 ∅ 0)
      ⊢ iprop(((stP c cc0_stg5_0 (outAt m ρ c)
          ∗ ow (F := F) c 0
          ∗ atPos ER (xCell c 0) 1 ∅ 0
          ∗ kPts c c (shr 0) (kG m ρ)) -∗ WP c (k ⟨⟩) Q)
        -∗ WP c (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5 c (x95 m ρ c) (x681 m ρ c) (x685 m ρ c) (x696 m ρ c) (x700 m ρ c) (x719 m ρ c) (x723 m ρ c) (x734 m ρ c) (x738 m ρ c) (x749 m ρ c) (x753 m ρ c) (x764 m ρ c) (x768 m ρ c) (x771 m ρ c) (x774 m ρ c) >>= k) Q) := by
  rw [k0_part21_eq_skeleton]; unfold k0_part21_skel
  simp only [semSignalWord, semWaitWord, Prog.lift, Prog.bind_op, Prog.bind_ret, Prog.pure_eq_ret, Prog.bind_assoc, wp_deviceId]
  iintro ⟨#HR, ⟨%f, Ho⟩, Hc0, HO, Ha⟩ Hc
  iapply (wp_load 𝒱₀ (c : Thread nD τ) none Set.univ (m := oM) (Finset.subset_univ _)) $$ Ho; iintro Ho
  iapply (wp_store 𝒱₀ (c : Thread nD τ) none Set.univ (m := oM) (r := out0) (Mk := Finset.univ) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := out1) (Mk := Finset.univ) (Finset.subset_univ _)) $$ Ho; iintro Ho
  iapply (wp_wait m ρ K c 0 ks0_eq) $$ [Hc0 HO Ha]
  · isplitr; · iexact HR
    isplitl [Hc0]; · iexact Hc0
    isplitl [HO]; · iexact HO
    iexact Ha
  iintro ⟨HO, Ha, Hk⟩
  dsimp only [xPay]
  iapply Hc
  isplitl [Ho]; · iapply (Entails.of_eq (congrArg (stP c cc0_stg5_0) (write_out m ρ c f))); iexact Ho
  isplitl [HO]; · iexact HO
  isplitl [Ha]; · iexact Ha
  iexact Hk

theorem part6_ret (c : Dev nD) : k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5 (x99 m ρ c) (x109 m ρ c) (x110 m ρ c) (x111 m ρ c) (x117 m ρ c) (x118 m ρ c) (x119 m ρ c) (x137 m ρ c) (x141 m ρ c) (x145 m ρ c) (x150 m ρ c) (x151 m ρ c) = pure ⟨x156 m ρ c, x160 m ρ c, x171 m ρ c, x175 m ρ c, x186 m ρ c, x190 m ρ c, x195 m ρ c, x196 m ρ c⟩ := rfl
theorem part8_ret (c : Dev nD) : k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5 (x6 m ρ c) (x103 m ρ c) (x114 m ρ c) (x115 m ρ c) (x116 m ρ c) (x123 m ρ c) (x124 m ρ c) (x137 m ρ c) (x209 m ρ c) (x213 m ρ c) (x236 m ρ c) = pure ⟨x243 m ρ c, x254 m ρ c, x258 m ρ c, x269 m ρ c, x273 m ρ c⟩ := rfl
theorem part10_ret (c : Dev nD) : k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5 (x99 m ρ c) (x156 m ρ c) (x160 m ρ c) (x171 m ρ c) (x175 m ρ c) (x186 m ρ c) (x190 m ρ c) (x302 m ρ c) (x306 m ρ c) (x310 m ρ c) (x313 m ρ c) (x314 m ρ c) = pure ⟨x321 m ρ c, x325 m ρ c, x336 m ρ c, x340 m ρ c, x351 m ρ c, x355 m ρ c, x358 m ρ c, x359 m ρ c⟩ := rfl
theorem part12_ret (c : Dev nD) : k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5 (x4 m ρ c) (x103 m ρ c) (x239 m ρ c) (x243 m ρ c) (x254 m ρ c) (x258 m ρ c) (x269 m ρ c) (x273 m ρ c) (x302 m ρ c) (x374 m ρ c) (x378 m ρ c) (x401 m ρ c) = pure ⟨x404 m ρ c, x408 m ρ c, x419 m ρ c, x423 m ρ c, x434 m ρ c, x438 m ρ c, x443 m ρ c⟩ := rfl
theorem part14_ret (c : Dev nD) : k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5 (x99 m ρ c) (x321 m ρ c) (x325 m ρ c) (x336 m ρ c) (x340 m ρ c) (x351 m ρ c) (x355 m ρ c) (x467 m ρ c) (x471 m ρ c) (x475 m ρ c) (x476 m ρ c) (x477 m ρ c) (xcst_273 m ρ c) = pure ⟨x486 m ρ c, x490 m ρ c, x501 m ρ c, x505 m ρ c, x516 m ρ c, x520 m ρ c, x521 m ρ c, x522 m ρ c, xcst_288 m ρ c⟩ := rfl
theorem part16_ret (c : Dev nD) : k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5 (x8 m ρ c) (x103 m ρ c) (x404 m ρ c) (x408 m ρ c) (x419 m ρ c) (x423 m ρ c) (x434 m ρ c) (x438 m ρ c) (x467 m ρ c) (x539 m ρ c) (x543 m ρ c) (x563 m ρ c) (x564 m ρ c) = pure ⟨x569 m ρ c, x573 m ρ c, x584 m ρ c, x588 m ρ c, x599 m ρ c, x603 m ρ c⟩ := rfl
theorem part18_ret (c : Dev nD) : k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5 (x99 m ρ c) (x486 m ρ c) (x490 m ρ c) (x501 m ρ c) (x505 m ρ c) (x516 m ρ c) (x520 m ρ c) (x632 m ρ c) (x636 m ρ c) (x640 m ρ c) = pure ⟨x651 m ρ c, x655 m ρ c, x666 m ρ c, x670 m ρ c, x681 m ρ c, x685 m ρ c⟩ := rfl
theorem part20_ret (c : Dev nD) : k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5 (x103 m ρ c) (x569 m ρ c) (x573 m ρ c) (x584 m ρ c) (x588 m ρ c) (x599 m ρ c) (x603 m ρ c) (x632 m ρ c) (x651 m ρ c) (x655 m ρ c) (x666 m ρ c) (x670 m ρ c) (x704 m ρ c) (x708 m ρ c) (x726 m ρ c) (x727 m ρ c) = pure ⟨x734 m ρ c, x738 m ρ c, x749 m ρ c, x753 m ρ c, x764 m ρ c, x768 m ρ c, x771 m ρ c, x774 m ρ c⟩ := rfl

end Cert.IdealRun
-- ==== Proof.IdealBody.lean ====
/-
# The kernel's body on one device, from what it is dealt to what it leaves
-/
module

public import proofs.«01_k».proof.Proof.IdealParts
public import proofs.«01_k».proof.Proof.Gen.KernelIdeal.Points

@[expose] public section

noncomputable section

namespace Cert.IdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F) (ρ : Dev nD → PrngReg)

/-- The device's place in the rounds of each of its own cells. -/
def places (c : Dev nD) : sProp 𝕄 :=
  iprop(atPos ER (barCell c) 0 ∅ 0 ∗ atPos ER (xCell c 0) 0 ∅ 0 ∗ atPos ER (xCell c 1) 0 ∅ 0 ∗ atPos ER (xCell c 2) 0 ∅ 0 ∗ atPos ER (xCell c 3) 0 ∅ 0 ∗ atPos ER (xCell c 4) 0 ∅ 0 ∗ atPos ER (xCell c 5) 0 ∅ 0 ∗ atPos ER (xCell c 6) 0 ∅ 0 ∗ atPos ER (xCell c 7) 0 ∅ 0 ∗ atPos ER (xCell c 8) 0 ∅ 0 ∗ atPos ER (xCell c 9) 0 ∅ 0 ∗ atPos ER (xCell c 10) 0 ∅ 0 ∗ atPos ER (xCell c 11) 0 ∅ 0)
/-- The tokens of the duties the device pays: the barriers of the three others, its own send cells, the receive cells it sends to. -/
def payToks (c : Dev nD) : sProp 𝕄 :=
  iprop(dutyTok ER (barCell (peer 0 c)) 0 (back 0) ∗ dutyTok ER (barCell (peer 1 c)) 0 (back 1) ∗ dutyTok ER (barCell (peer 2 c)) 0 (back 2)
    ∗ dutyTok ER (xCell c 0) 0 0 ∗ dutyTok ER (xCell c 1) 0 0 ∗ dutyTok ER (xCell c 2) 0 0 ∗ dutyTok ER (xCell c 6) 0 0 ∗ dutyTok ER (xCell c 7) 0 0 ∗ dutyTok ER (xCell c 8) 0 0
    ∗ dutyTok ER (xCell (peer 0 c) 3) 0 0 ∗ dutyTok ER (xCell (peer 0 c) 9) 0 0 ∗ dutyTok ER (xCell (peer 1 c) 4) 0 0 ∗ dutyTok ER (xCell (peer 1 c) 10) 0 0 ∗ dutyTok ER (xCell (peer 2 c) 5) 0 0 ∗ dutyTok ER (xCell (peer 2 c) 11) 0 0)
/-- The credit the device's waits on what others pay will use. -/
def owedTo (c : Dev nD) : sProp 𝕄 :=
  iprop(cred (tallyAt (barCell c) () 3) ∗ cred (tallyAt (xCell c 3) () N) ∗ cred (tallyAt (xCell c 4) () N) ∗ cred (tallyAt (xCell c 5) () N) ∗ cred (tallyAt (xCell c 9) () N) ∗ cred (tallyAt (xCell c 10) () N) ∗ cred (tallyAt (xCell c 11) () N))
def linear (c : Dev nD) : sProp 𝕄 := iprop(places (F := F) c ∗ payToks c)
def start (c : Dev nD) : sProp 𝕄 := iprop((∃ K, recs m ρ K ∗ linear c) ∗ owedTo c ∗ levAts L lv)

/-- The cells of a device, all at zero. -/
def zeros (c : Dev nD) : sProp 𝕄 :=
  iprop(semVal (barCell c) 0 ∗ semVal (xCell c 0) 0 ∗ semVal (xCell c 1) 0 ∗ semVal (xCell c 2) 0 ∗ semVal (xCell c 3) 0 ∗ semVal (xCell c 4) 0 ∗ semVal (xCell c 5) 0 ∗ semVal (xCell c 6) 0 ∗ semVal (xCell c 7) 0 ∗ semVal (xCell c 8) 0 ∗ semVal (xCell c 9) 0 ∗ semVal (xCell c 10) 0 ∗ semVal (xCell c 11) 0)

def Φ₀ (c : Dev nD) : sProp 𝕄 := iprop(start m ρ c ∗ (∃ f : Full F, stP c cc0_scratch0 f) ∗ ∃ f : Full F, stP c cc0_scratch1 f)
def Φ₁ (c : Dev nD) : sProp 𝕄 := iprop(stP c cc0_scratch0 (kG m ρ) ∗ stP c cc0_scratch1 (vG m ρ) ∗ zeros c)

variable (K : Dev nD × Option (Fin 12) → ℕ)

theorem close_x (c : Dev nD) (i : Fin 12) : iprop(recs m ρ K ∗ atPos ER (xCell c i) 1 ∅ 0) ⊢ |={Set.univ}=> semVal (xCell c i) 0 := by
  iintro ⟨#HR, H⟩
  imod (Rounds.cell_close ER (sched m ρ) (Set.mem_univ (K (c, some i))) (fun h => h) (R := 1) (duties_later m ρ (xCell c i))) $$ [H] with Hz
  · isplitr; · iapply (recs_inv m ρ K c i); iexact HR
    iexact H
  imodintro; iexact Hz
theorem close_bar (c : Dev nD) : iprop(recs m ρ K ∗ atPos ER (barCell c) 1 ∅ 0) ⊢ |={Set.univ}=> semVal (barCell c) 0 := by
  iintro ⟨#HR, H⟩
  imod (Rounds.cell_close ER (sched m ρ) (Set.mem_univ (K (c, none))) (fun h => h) (R := 1) (duties_later m ρ (barCell c))) $$ [H] with Hz
  · isplitr; · iapply (recs_bar m ρ K c); iexact HR
    iexact H
  imodintro; iexact Hz

/-- The staged blocks. -/
abbrev staged (c : Dev nD) : sProp 𝕄 :=
  iprop(stP c cc0_stg0_0 (xS m ρ c) ∗ stP c cc0_stg1_0 (wqS m ρ c) ∗ stP c cc0_stg2_0 (kS m ρ c) ∗ stP c cc0_stg3_0 (vS m ρ c) ∗ stP c cc0_stg4_0 (woS m ρ c))

set_option maxHeartbeats 4000000 in
theorem body_wp (c : Dev nD) (Q : PUnit → sProp 𝕄) :
    iprop(recs m ρ K ∗ levAts L lv ∗ linear c ∗ owedTo c ∗ ow (F := F) c (O0 c) ∗ (∃ f : Full F, stP c cc0_scratch0 f) ∗ (∃ f : Full F, stP c cc0_scratch1 f)
        ∗ staged m ρ c ∗ (∃ f, stP c cc0_stg5_0 f))
      ⊢ iprop(((Φ₁ m ρ c ∗ ow (F := F) c 0 ∗ staged m ρ c ∗ stP c cc0_stg5_0 (outAt m ρ c)) -∗ Q ⟨⟩)
        -∗ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5) Q) := by
  rw [cc0_body_eq_skeleton]; unfold cc0_body_skel
  rw [k0_part22_eq_skeleton]; unfold k0_part22_skel
  simp only [Prog.lift, Prog.bind_op, Prog.bind_ret, Prog.pure_eq_ret, Prog.bind_assoc]
  unfold linear places payToks owedTo staged
  iintro ⟨#HR, #Hlev, ⟨⟨Ab, A0, A1, A2, A3, A4, A5, A6, A7, A8, A9, A10, A11⟩, B0, B1, B2, T0, T1, T2, T6, T7, T8, T3, T9, T4, T10, T5, T11⟩, ⟨Cb, C3, C4, C5, C9, C10, C11⟩, HO, Hsk, Hsv, ⟨Hx, Hq, Hks, Hvs, Hw⟩, Hout⟩ HQ
  iapply (part1_wp m ρ K c) $$ [HO B0 B1 B2 Hsk Hsv Cb Ab Hks]
  · isplitr; · iexact HR
    isplitr; · iexact Hlev
    isplitl [HO]; · iexact HO
    isplitl [B0]; · iexact B0
    isplitl [B1]; · iexact B1
    isplitl [B2]; · iexact B2
    isplitl [Hsk]; · iexact Hsk
    isplitl [Hsv]; · iexact Hsv
    isplitl [Cb]; · iexact Cb
    isplitl [Ab]; · iexact Ab
    iexact Hks
  iintro ⟨HO, Ab, P0, P1, P2, Hk, Hv, Hks⟩
  dsimp only
  ihave Hk := (k_shares c c (kG m ρ)).1 $$ Hk
  icases Hk with ⟨⟨Hk0, Hk1⟩, Hk2, Hk3⟩
  unfold barPay
  icases P0 with ⟨P0, V0⟩
  icases P1 with ⟨P1, V1⟩
  icases P2 with ⟨P2, V2⟩
  iapply (part2_wp m ρ K c) $$ [Hvs Hv Hk0 P0 V0 HO T0 T3 T6 T9]
  · isplitr; · iexact HR
    isplitl [Hvs]; · iexact Hvs
    isplitl [Hv]; · iexact Hv
    isplitl [Hk0]; · iexact Hk0
    isplitl [P0]; · iexact P0
    isplitl [V0]; · iexact V0
    isplitl [HO]; · iexact HO
    isplitl [T0]; · iexact T0
    isplitl [T3]; · iexact T3
    isplitl [T6]; · iexact T6
    iexact T9
  iintro ⟨Hvs, Hv1, Hv2, Hv3, HO, C0, C6⟩
  iapply (part3_wp m ρ K c) $$ [Hk1 Hv1 Hk2 P1 V1 P2 HO T1 T4 T7 T10 T2 T5]
  · isplitr; · iexact HR
    isplitl [Hk1]; · iexact Hk1
    isplitl [Hv1]; · iexact Hv1
    isplitl [Hk2]; · iexact Hk2
    isplitl [P1]; · iexact P1
    isplitl [V1]; · iexact V1
    isplitl [P2]; · iexact P2
    isplitl [HO]; · iexact HO
    isplitl [T1]; · iexact T1
    isplitl [T4]; · iexact T4
    isplitl [T7]; · iexact T7
    isplitl [T10]; · iexact T10
    isplitl [T2]; · iexact T2
    iexact T5
  iintro ⟨HO, C1, C7, C2⟩
  iapply (part4_wp m ρ K c) $$ [Hv2 V2 HO T8 T11 Hx Hq Hw]
  · isplitr; · iexact HR
    isplitl [Hv2]; · iexact Hv2
    isplitl [V2]; · iexact V2
    isplitl [HO]; · iexact HO
    isplitl [T8]; · iexact T8
    isplitl [T11]; · iexact T11
    isplitl [Hx]; · iexact Hx
    isplitl [Hq]; · iexact Hq
    iexact Hw
  iintro ⟨HO, C8, Hx, Hq, Hw⟩
  dsimp only
  iapply (part5_wp m ρ c) $$ [Hk3 Hv3]
  · isplitl [Hk3]; · iexact Hk3
    iexact Hv3
  iintro ⟨Hk3, Hv3⟩
  dsimp only
  rw [part6_ret m ρ c, Prog.pure_eq_ret, Prog.bind_ret]; dsimp only
  iapply (part7_wp m ρ c) $$ [Hk3 Hv3]
  · isplitl [Hk3]; · iexact Hk3
    iexact Hv3
  iintro ⟨Hk3, Hv3⟩
  dsimp only
  rw [part8_ret m ρ c, Prog.pure_eq_ret, Prog.bind_ret]; dsimp only
  iapply (part9_wp m ρ K c) $$ [C3 C9 HO A3 A9]
  · isplitr; · iexact HR
    isplitl [C3]; · iexact C3
    isplitl [C9]; · iexact C9
    isplitl [HO]; · iexact HO
    isplitl [A3]; · iexact A3
    iexact A9
  iintro ⟨HO, A3, A9, Kr1, Vr1⟩
  dsimp only
  rw [part10_ret m ρ c, Prog.pure_eq_ret, Prog.bind_ret]; dsimp only
  iapply (part11_wp m ρ c) $$ [Kr1 Vr1]
  · isplitl [Kr1]; · iexact Kr1
    iexact Vr1
  iintro ⟨Kr1, Vr1⟩
  dsimp only
  rw [part12_ret m ρ c, Prog.pure_eq_ret, Prog.bind_ret]; dsimp only
  iapply (part13_wp m ρ K c) $$ [C4 C10 HO A4 A10]
  · isplitr; · iexact HR
    isplitl [C4]; · iexact C4
    isplitl [C10]; · iexact C10
    isplitl [HO]; · iexact HO
    isplitl [A4]; · iexact A4
    iexact A10
  iintro ⟨HO, A4, A10, Kr0, Vr0⟩
  dsimp only
  rw [part14_ret m ρ c, Prog.pure_eq_ret, Prog.bind_ret]; dsimp only
  iapply (part15_wp m ρ c) $$ [Kr0 Vr0]
  · isplitl [Kr0]; · iexact Kr0
    iexact Vr0
  iintro ⟨Kr0, Vr0⟩
  dsimp only
  rw [part16_ret m ρ c, Prog.pure_eq_ret, Prog.bind_ret]; dsimp only
  iapply (part17_wp m ρ K c) $$ [C5 C11 HO A5 A11]
  · isplitr; · iexact HR
    isplitl [C5]; · iexact C5
    isplitl [C11]; · iexact C11
    isplitl [HO]; · iexact HO
    isplitl [A5]; · iexact A5
    iexact A11
  iintro ⟨HO, A5, A11, Kr2, Vr2⟩
  dsimp only
  rw [part18_ret m ρ c, Prog.pure_eq_ret, Prog.bind_ret]; dsimp only
  iapply (part19_wp m ρ c) $$ [Kr2 Vr2]
  · isplitl [Kr2]; · iexact Kr2
    iexact Vr2
  iintro ⟨Kr2, Vr2⟩
  dsimp only
  rw [part20_ret m ρ c, Prog.pure_eq_ret, Prog.bind_ret]; dsimp only
  iapply (part21_wp m ρ K c) $$ [Hout C0 HO A0]
  · isplitr; · iexact HR
    isplitl [Hout]; · iexact Hout
    isplitl [C0]; · iexact C0
    isplitl [HO]; · iexact HO
    iexact A0
  iintro ⟨Hout, HO, A0, Hk0⟩
  iapply (wp_wait m ρ K c 6 vs0_eq) $$ [C6 HO A6]
  · isplitr; · iexact HR
    isplitl [C6]; · iexact C6
    isplitl [HO]; · iexact HO
    iexact A6
  iintro ⟨HO, A6, Hv0⟩
  iapply (wp_wait m ρ K c 1 ks1_eq) $$ [C1 HO A1]
  · isplitr; · iexact HR
    isplitl [C1]; · iexact C1
    isplitl [HO]; · iexact HO
    iexact A1
  iintro ⟨HO, A1, Hk1⟩
  iapply (wp_wait m ρ K c 7 vs1_eq) $$ [C7 HO A7]
  · isplitr; · iexact HR
    isplitl [C7]; · iexact C7
    isplitl [HO]; · iexact HO
    iexact A7
  iintro ⟨HO, A7, Hv1⟩
  iapply (wp_wait m ρ K c 2 ks2_eq) $$ [C2 HO A2]
  · isplitr; · iexact HR
    isplitl [C2]; · iexact C2
    isplitl [HO]; · iexact HO
    iexact A2
  iintro ⟨HO, A2, Hk2⟩
  iapply (wp_wait m ρ K c 8 vs2_eq) $$ [C8 HO A8]
  · isplitr; · iexact HR
    isplitl [C8]; · iexact C8
    isplitl [HO]; · iexact HO
    iexact A8
  iintro ⟨HO, A8, Hv2⟩
  dsimp only [xPay]
  rw [show WP (F := F) c (Prog.ret PUnit.unit) Q = wp frame (wpE (defs₀ (F := F)) 𝒱₀ (c : Thread nD τ) none) Set.univ (Prog.ret PUnit.unit) Q from rfl, wp_ret]
  imod (close_x m ρ K c 0) $$ [A0] with A0
  · isplitr; · iexact HR
    iexact A0
  imod (close_x m ρ K c 1) $$ [A1] with A1
  · isplitr; · iexact HR
    iexact A1
  imod (close_x m ρ K c 2) $$ [A2] with A2
  · isplitr; · iexact HR
    iexact A2
  imod (close_x m ρ K c 3) $$ [A3] with A3
  · isplitr; · iexact HR
    iexact A3
  imod (close_x m ρ K c 4) $$ [A4] with A4
  · isplitr; · iexact HR
    iexact A4
  imod (close_x m ρ K c 5) $$ [A5] with A5
  · isplitr; · iexact HR
    iexact A5
  imod (close_x m ρ K c 6) $$ [A6] with A6
  · isplitr; · iexact HR
    iexact A6
  imod (close_x m ρ K c 7) $$ [A7] with A7
  · isplitr; · iexact HR
    iexact A7
  imod (close_x m ρ K c 8) $$ [A8] with A8
  · isplitr; · iexact HR
    iexact A8
  imod (close_x m ρ K c 9) $$ [A9] with A9
  · isplitr; · iexact HR
    iexact A9
  imod (close_x m ρ K c 10) $$ [A10] with A10
  · isplitr; · iexact HR
    iexact A10
  imod (close_x m ρ K c 11) $$ [A11] with A11
  · isplitr; · iexact HR
    iexact A11
  imod (close_bar m ρ K c) $$ [Ab] with Ab
  · isplitr; · iexact HR
    iexact Ab
  imodintro
  iapply HQ
  unfold Φ₁ zeros
  isplitl [Hk0 Hk1 Hk2 Hk3 Kr0 Kr1 Kr2 Hv0 Hv1 Hv2 Hv3 Vr0 Vr1 Vr2 Ab A0 A1 A2 A3 A4 A5 A6 A7 A8 A9 A10 A11]
  · isplitl [Hk0 Hk1 Hk2 Hk3 Kr0 Kr1 Kr2]
    · iapply (k_blocks c (kG m ρ)).2
      isplitl [Hk0 Hk1 Hk2 Hk3]
      · iapply (k_shares c c (kG m ρ)).2
        isplitl [Hk0 Hk1]; · isplitl [Hk0] <;> iassumption
        isplitl [Hk2] <;> iassumption
      isplitl [Kr0]; · iexact Kr0
      isplitl [Kr1] <;> iassumption
    isplitl [Hv0 Hv1 Hv2 Hv3 Vr0 Vr1 Vr2]
    · iapply (v_blocks c (vG m ρ)).2
      isplitl [Hv0 Hv1 Hv2 Hv3]
      · iapply (v_shares c c (vG m ρ)).2
        isplitl [Hv0 Hv1]; · isplitl [Hv0] <;> iassumption
        isplitl [Hv2] <;> iassumption
      isplitl [Vr0]; · iexact Vr0
      isplitl [Vr1] <;> iassumption
    isplitl [Ab]; · iexact Ab
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  isplitl [HO]; · iexact HO
  isplitl [Hx Hq Hks Hvs Hw]
  · isplitl [Hx]; · iexact Hx
    isplitl [Hq]; · iexact Hq
    isplitl [Hks]; · iexact Hks
    isplitl [Hvs]; · iexact Hvs
    iexact Hw
  iexact Hout

/-! ## The obligation the launch asks of the body -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xS m ρ c
    | ⟨1, _⟩ => wqS m ρ c
    | ⟨2, _⟩ => kS m ρ c
    | ⟨3, _⟩ => vS m ρ c
    | ⟨4, _⟩ => woS m ρ c
    | ⟨5, _⟩ => outAt m ρ c
  Φ t := match t with
    | ⟨0, _⟩ => Φ₀ m ρ c
    | ⟨_ + 1, _⟩ => Φ₁ m ρ c
  q _ := fullShare
  owed t := match t with
    | ⟨0, _⟩ => O0 c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged buffer as the launch names it. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def pre (c : Dev nD) : sProp 𝕄 :=
  iprop(Φ₀ m ρ c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def post (c : Dev nD) : sProp 𝕄 :=
  iprop(Φ₁ m ρ c ∗ (dats m ρ 0 c).owesAt () t0_0.succ
    ∗ stg c cc0_stg0_0 (xS m ρ c)
    ∗ stg c cc0_stg1_0 (wqS m ρ c)
    ∗ stg c cc0_stg2_0 (kS m ρ c)
    ∗ stg c cc0_stg3_0 (vS m ρ c)
    ∗ stg c cc0_stg4_0 (woS m ρ c)
    ∗ stg c cc0_stg5_0 (outAt m ρ c))
theorem before0 (c : Dev nD) (d) : (dats (F := F) m ρ 0 c).before (0 : Fin 6) t0_0 d = xS m ρ c := by
  unfold Dat.before; rw [if_pos (fetch0_0 t0_0)]; rfl
theorem before1 (c : Dev nD) (d) : (dats (F := F) m ρ 0 c).before (1 : Fin 6) t0_0 d = wqS m ρ c := by
  unfold Dat.before; rw [if_pos (fetch0_1 t0_0)]; rfl
theorem before2 (c : Dev nD) (d) : (dats (F := F) m ρ 0 c).before (2 : Fin 6) t0_0 d = kS m ρ c := by
  unfold Dat.before; rw [if_pos (fetch0_2 t0_0)]; rfl
theorem before3 (c : Dev nD) (d) : (dats (F := F) m ρ 0 c).before (3 : Fin 6) t0_0 d = vS m ρ c := by
  unfold Dat.before; rw [if_pos (fetch0_3 t0_0)]; rfl
theorem before4 (c : Dev nD) (d) : (dats (F := F) m ρ 0 c).before (4 : Fin 6) t0_0 d = woS m ρ c := by
  unfold Dat.before; rw [if_pos (fetch0_4 t0_0)]; rfl

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show pre m ρ c ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            cc0_scratch2 cc0_scratch3 cc0_scratch4 cc0_scratch5) (fun _ => post m ρ c)
  unfold pre Φ₀ start
  simp only [before0, before1, before2, before3, before4]
  iintro ⟨⟨⟨⟨%K, #HR, Hlin⟩, Hcr, #Hlev⟩, Hsk, Hsv⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  subst h0 h1 h2 h3 h4
  unfold Dat.owesAt Pipeline.owesWithin
  icases Ho with ⟨%W, %hW, HO⟩
  rw [show (dats m ρ 0 c).owed t0_0.castSucc = O0 c from rfl]
  iapply (body_wp m ρ K c (fun _ => post m ρ c)) $$ [Hlin Hcr HO Hsk Hsv H0 H1 H2 H3 H4 H5]
  · isplitr; · iexact HR
    isplitr; · iexact Hlev
    isplitl [Hlin]; · iexact Hlin
    isplitl [Hcr]; · iexact Hcr
    isplitl [HO]; · iexists W; iexact HO
    isplitl [Hsk]; · iexact Hsk
    isplitl [Hsv]; · iexact Hsv
    isplitl [H0 H1 H2 H3 H4]
    · unfold staged
      isplitl [H0]; · iexact H0
      isplitl [H1]; · iexact H1
      isplitl [H2]; · iexact H2
      isplitl [H3]; · iexact H3
      iexact H4
    iexists g5; iexact H5
  unfold post staged Dat.owesAt Pipeline.owesWithin
  rw [show (dats m ρ 0 c).owed t0_0.succ = 0 from rfl]
  iintro ⟨HΦ, ⟨%W2, HO⟩, ⟨H0, H1, H2, H3, H4⟩, H5⟩
  isplitl [HΦ]; · iexact HΦ
  isplitl [HO]
  · iexists W2
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

end Cert.IdealRun
-- ==== Proof.IdealLaunch.lean ====
/-
# The launch: from the memory at the start, through the exchange of the four devices, to the end
-/
module

public import proofs.«01_k».proof.Proof.IdealBody
public import Idealize.ShloMosaic.Lib.Pipeline.CollectiveSegs

@[expose] public section

noncomputable section

namespace Cert.IdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F) (ρ : Dev nD → PrngReg)

theorem ownSemFacts : Pipeline.OwnSemFacts cfg0.spec osem := by decide
theorem share_eq (c : Dev nD) (w : Fin cfg0.W) : (dats m ρ 0 c).share w = fullShare := by unfold Dat.share; split <;> rfl

/-! ## The cells and their tokens -/

theorem dsem_inj {i j : Fin 12} (h : dsem i = dsem j) : i = j :=
  Option.some.inj ((xOf_dsem i).symm.trans ((congrArg xOf h).trans (xOf_dsem j)))
theorem csem_injective : Function.Injective csem := by
  rintro (_ | i) (_ | j) h
  · rfl
  · exact absurd h (fun h' => by cases h')
  · exact absurd h (fun h' => by cases h')
  · exact congrArg some (dsem_inj (SemLoc.dma.inj h))
theorem kcell_injective : Function.Injective (kcell : Dev nD × Option (Fin 12) → GSem nD τ sig) := by
  rintro ⟨c, o⟩ ⟨c', o'⟩ h
  have h1 : c = c' := congrArg (fun g : GSem nD τ sig => g.1.1) h
  have h2 : o = o' := csem_injective (congrArg Prod.snd h)
  rw [h1, h2]
def allCells : Finset (GSem nD τ sig) := Finset.univ.map ⟨kcell, kcell_injective⟩

/-- The duties of a device's cells: the three of its barrier, the one of each of the twelve others. -/
abbrev tokOf (cj : Dev nD × (Fin 3 ⊕ Fin 12)) : GSem nD τ sig × ℕ × Fin 3 := match cj.2 with
  | .inl d => (barCell cj.1, 0, d)
  | .inr i => (xCell cj.1 i, 0, 0)
theorem tokOf_injective : Function.Injective tokOf := by
  rintro ⟨c, d | i⟩ ⟨c', d' | i'⟩ h
  · have h1 : c = c' := congrArg (fun x : GSem nD τ sig × ℕ × Fin 3 => x.1.1.1) h
    have h2 : d = d' := congrArg (fun x : GSem nD τ sig × ℕ × Fin 3 => x.2.2) h
    rw [h1, h2]
  · exact absurd (congrArg (fun x : GSem nD τ sig × ℕ × Fin 3 => x.1.2) h) (fun h' => by cases h')
  · exact absurd (congrArg (fun x : GSem nD τ sig × ℕ × Fin 3 => x.1.2) h) (fun h' => by cases h')
  · have h1 : c = c' := congrArg (fun x : GSem nD τ sig × ℕ × Fin 3 => x.1.1.1) h
    have h2 : i = i' := dsem_inj (SemLoc.dma.inj (congrArg (fun x : GSem nD τ sig × ℕ × Fin 3 => x.1.2) h))
    rw [h1, h2]
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The tokens of the device's own cells. -/
def ownToks (c : Dev nD) : sProp 𝕄 :=
  iprop((bigSep Finset.univ fun d : Fin 3 => dutyTok ER (barCell c) 0 d) ∗ bigSep Finset.univ fun i : Fin 12 => dutyTok ER (xCell c i) 0 0)

def G (c : Dev nD) : sProp 𝕄 :=
  iprop((bigSep Finset.univ fun o : Option (Fin 12) => roundState ER (sched m ρ) (kcell (c, o)) 0)
    ∗ (bigSep Finset.univ fun o : Option (Fin 12) => iprop(atPos ER (kcell (c, o)) 0 ∅ 0 ∗ reached ER (kcell (c, o)) 0)) ∗ ownToks c)
def G' (c : Dev nD) : sProp 𝕄 := iprop(∃ K, recs m ρ K ∗ linear c)

theorem list3 (Φ : Fin 3 → sProp 𝕄) : bigSep Finset.univ Φ = iprop(Φ 0 ∗ Φ 1 ∗ Φ 2) :=
  bigSep_univ_eq_bigSepL [0, 1, 2] (by decide) (by decide) Φ
theorem list12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
theorem list13 (Φ : Option (Fin 12) → sProp 𝕄) : bigSep Finset.univ Φ = iprop(Φ none ∗ Φ (some 0) ∗ Φ (some 1) ∗ Φ (some 2) ∗ Φ (some 3) ∗ Φ (some 4) ∗ Φ (some 5) ∗ Φ (some 6) ∗ Φ (some 7) ∗ Φ (some 8) ∗ Φ (some 9) ∗ Φ (some 10) ∗ Φ (some 11)) :=
  bigSep_univ_eq_bigSepL [none, some 0, some 1, some 2, some 3, some 4, some 5, some 6, some 7, some 8, some 9, some 10, some 11] (by decide) (by decide) Φ

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun o : Option (Fin 12) => Φ (kcell (c, o)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by unfold ownToks; rw [bigSep_univ_sum]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell under its invariant -/

theorem ownSems_list (c : Dev nD) : (Pipeline.ownSems0 (Ix := Unit) (Name := ℕ) (U := UU) (Lvl := ℕ) (Val := Elt F) (τ := τ) osem c : sProp 𝕄)
    = iprop(semVal (xCell c 0) 0 ∗ semVal (xCell c 1) 0 ∗ semVal (xCell c 2) 0 ∗ semVal (xCell c 3) 0 ∗ semVal (xCell c 4) 0 ∗ semVal (xCell c 5) 0 ∗ semVal (xCell c 6) 0 ∗ semVal (xCell c 7) 0 ∗ semVal (xCell c 8) 0 ∗ semVal (xCell c 9) 0 ∗ semVal (xCell c 10) 0 ∗ semVal (xCell c 11) 0) := by
  rw [Pipeline.ownSems0_eq_of_list c osem [0, 1, 2, 3, 4, 5, 6, 7, 8, 9, 10, 11] (by decide) (by decide)]; rfl
theorem unscopedSems_bar (c : Dev nD) : (unscopedSems0 c : sProp 𝕄) = semVal (barCell c) 0 := by
  unfold unscopedSems0; rw [bigSep_eq_bigSepL_of_eq [SemLoc.reg barS] (by decide) (by decide)]; rfl

theorem sems_all (c : Dev nD) :
    iprop(Pipeline.ownSems0 (Ix := Unit) (Name := ℕ) (U := UU) (Lvl := ℕ) (Val := Elt F) (τ := τ) osem c ∗ unscopedSems0 c)
      ⊢ (bigSep Finset.univ fun o : Option (Fin 12) => semVal (kcell (c, o)) 0 : sProp 𝕄) := by
  rw [ownSems_list, unscopedSems_bar, list13]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun o => iprop(∃ κ : ℕ, cellInv ER (sched m ρ) κ (kcell (c, o))))
          ∗ (bigSep Finset.univ fun o => iprop(atPos ER (kcell (c, o)) 0 ∅ 0 ∗ reached ER (kcell (c, o)) 0)) ∗ ownToks c) := by
  unfold G
  iintro ⟨Hos, Hus, Hst, Hat, Htok⟩
  ihave Hv := (sems_all (F := F) c) $$ [Hos Hus]
  · isplitl [Hos] <;> iassumption
  imod (show iprop((bigSep Finset.univ fun o : Option (Fin 12) => semVal (kcell (c, o)) 0) ∗ bigSep Finset.univ fun o : Option (Fin 12) => roundState ER (sched m ρ) (kcell (c, o)) 0)
      ⊢ (|={Set.univ}=> bigSep Finset.univ fun o => iprop(∃ κ : ℕ, cellInv ER (sched m ρ) κ (kcell (c, o))) : sProp 𝕄) from by
        rw [← bigSep_sep']
        exact (bigSep_mono fun o _ => (Rounds.body_intro ER (sched m ρ) (kcell (c, o))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the barriers dealt to the devices that signal them. -/
theorem deal_bar (j : Fin 3) : (bigSep Finset.univ fun c : Dev nD => (dutyTok ER (barCell c) 0 (back j) : sProp 𝕄))
    = bigSep Finset.univ fun c : Dev nD => dutyTok ER (barCell (peer j c)) 0 (back j) :=
  bigSep_univ_equiv (turn j) (fun c : Dev nD => (dutyTok ER (barCell c) 0 (back j) : sProp 𝕄))
/-- The tokens of the receive cells dealt to the devices that send. -/
theorem deal_x (j : Fin 3) (i : Fin 12) : (bigSep Finset.univ fun c : Dev nD => (dutyTok ER (xCell c i) 0 0 : sProp 𝕄))
    = bigSep Finset.univ fun c : Dev nD => dutyTok ER (xCell (peer j c) i) 0 0 :=
  bigSep_univ_equiv (turn j) (fun c : Dev nD => (dutyTok ER (xCell c i) 0 0 : sProp 𝕄))

theorem toks_around : (bigSep Finset.univ fun c : Dev nD => (ownToks c : sProp 𝕄)) ⊢ bigSep Finset.univ fun c : Dev nD => payToks c := by
  unfold ownToks payToks
  simp only [list3, list12, bigSep_sep']
  rw [← deal_bar 0, ← deal_bar 1, ← deal_bar 2, ← deal_x 0 3, ← deal_x 0 9, ← deal_x 1 4, ← deal_x 1 10, ← deal_x 2 5, ← deal_x 2 11]
  iintro ⟨⟨B0, B1, B2⟩, T0, T1, T2, T3, T4, T5, T6, T7, T8, T9, T10, T11⟩
  isplitl [B1]; · iexact B1
  isplitl [B0]; · iexact B0
  isplitl [B2]; · iexact B2
  isplitl [T0]; · iexact T0
  isplitl [T1]; · iexact T1
  isplitl [T2]; · iexact T2
  isplitl [T6]; · iexact T6
  isplitl [T7]; · iexact T7
  isplitl [T8]; · iexact T8
  isplitl [T3]; · iexact T3
  isplitl [T9]; · iexact T9
  isplitl [T4]; · iexact T4
  isplitl [T10]; · iexact T10
  isplitl [T5]; · iexact T5
  iexact T11

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun o => iprop(∃ κ : ℕ, cellInv ER (sched m ρ) κ (kcell (c, o))))
          ∗ (bigSep Finset.univ fun o => iprop(atPos ER (kcell (c, o)) 0 ∅ 0 ∗ reached ER (kcell (c, o)) 0)) ∗ ownToks c) : sProp 𝕄)
      ⊢ bigSep Finset.univ (G' m ρ) := by
  rw [bigSep_sep', bigSep_sep', ← bigSep_univ_prod (fun ck : Dev nD × Option (Fin 12) => iprop(∃ κ : ℕ, cellInv ER (sched m ρ) κ (kcell ck))),
    bigSep_congr (s := Finset.univ) (fun (c : Dev nD) _ => bigSep_sep' Finset.univ (fun o : Option (Fin 12) => (atPos ER (kcell (c, o)) 0 ∅ 0 : sProp 𝕄)) (fun o => reached ER (kcell (c, o)) 0)),
    bigSep_sep', ← bigSep_univ_prod (fun ck : Dev nD × Option (Fin 12) => (reached ER (kcell ck) 0 : sProp 𝕄))]
  iintro ⟨HI, ⟨Hat, #HR⟩, Htok⟩
  ihave HK := (BI.bigSep_exists_pi Finset.univ (fun (ck : Dev nD × Option (Fin 12)) (κ : ℕ) => (cellInv ER (sched m ρ) κ (kcell ck) : sProp 𝕄))) $$ HI
  icases HK with ⟨%K, #HI⟩
  ihave Htk := (toks_around (F := F)) $$ Htok
  iapply (with_persistent (R := recs m ρ K) (Φ := fun c => linear c) fun c _ => by
    unfold G'
    iintro ⟨H1, H2⟩
    iexists K
    isplitl [H1] <;> iassumption)
  isplitr
  · unfold recs
    rw [bigSep_sep']
    isplitl; · iexact HI
    iexact HR
  · iapply ((Entails.of_eq (bigSep_sep' Finset.univ (fun c : Dev nD => bigSep Finset.univ fun o : Option (Fin 12) => (atPos ER (kcell (c, o)) 0 ∅ 0 : sProp 𝕄)) payToks).symm).trans
      (bigSep_mono fun c _ => show _ ⊢ linear c from Entails.of_eq (by unfold linear places; rw [list13]; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem peer_eq_iff (j : Fin 3) (c d : Dev nD) : (c = peer j d) ↔ (d = peer (back j) c) :=
  ⟨fun h => by rw [h, peer_back], fun h => by rw [h, back_peer]⟩

theorem sum_tally {f : Dev nD → GSem nD τ sig} (j : Fin 3) (g : GSem nD τ sig) (c : Dev nD) (n : ℕ) (hf : ∀ d, (g = f d) ↔ c = peer j d) :
    (∑ d : Dev nD, (tallyAt (f d) () n : CellTallies nD τ sig Unit) g ()) = n := by
  have : ∀ d : Dev nD, (tallyAt (f d) () n : CellTallies nD τ sig Unit) g () = if d = peer (back j) c then n else 0 := fun d => by
    rw [tallyAt_apply]
    by_cases h : d = peer (back j) c
    · rw [if_pos h, if_pos ⟨(hf d).mpr ((peer_eq_iff j c d).mpr h), rfl⟩]
    · rw [if_neg h, if_neg (fun h' => h ((peer_eq_iff j c d).mp ((hf d).mp h'.1)))]
  rw [Finset.sum_congr rfl fun d _ => this d, Finset.sum_ite_eq' Finset.univ (peer (back j) c) fun _ => n, if_pos (Finset.mem_univ _)]
theorem sum_none {f : Dev nD → GSem nD τ sig} (g : GSem nD τ sig) (n : ℕ) (hf : ∀ d, g ≠ f d) :
    (∑ d : Dev nD, (tallyAt (f d) () n : CellTallies nD τ sig Unit) g ()) = 0 :=
  Finset.sum_eq_zero fun d _ => by rw [tallyAt_apply, if_neg (fun h => hf d h.1)]

theorem sum_bar_bar (j : Fin 3) (c : Dev nD) : (∑ d : Dev nD, (tallyAt (barCell (peer j d)) () 1 : CellTallies nD τ sig Unit) (barCell c) ()) = 1 :=
  sum_tally j _ c 1 fun d => ⟨fun h => congrArg (fun g : GSem nD τ sig => g.1.1) h, fun h => by rw [h]⟩
theorem sum_bar_x (j : Fin 3) (i : Fin 12) (c : Dev nD) : (∑ d : Dev nD, (due d j i) (barCell c) ()) = 0 :=
  sum_none _ _ fun d h => by have := congrArg Prod.snd h; cases this
theorem sum_x_bar (j : Fin 3) (i : Fin 12) (c : Dev nD) : (∑ d : Dev nD, (tallyAt (barCell (peer j d)) () 1 : CellTallies nD τ sig Unit) (xCell c i) ()) = 0 :=
  sum_none _ _ fun d h => by have := congrArg Prod.snd h; cases this
theorem sum_x_x (j : Fin 3) (i : Fin 12) (c : Dev nD) : (∑ d : Dev nD, (due d j i) (xCell c i) ()) = N :=
  sum_tally j _ c N fun d => ⟨fun h => congrArg (fun g : GSem nD τ sig => g.1.1) h, fun h => by rw [h]⟩
theorem sum_x_ne (j : Fin 3) (i i' : Fin 12) (hi : i' ≠ i) (c : Dev nD) : (∑ d : Dev nD, (due d j i) (xCell c i') ()) = 0 :=
  sum_none _ _ fun d h => hi (dsem_inj (SemLoc.dma.inj (congrArg Prod.snd h)))

/-- All a device owes at a cell, added up over the devices. -/
theorem sum_owed (g : GSem nD τ sig) : (∑ d : Dev nD, O0 d g ()) =
    (∑ d : Dev nD, (due d 2 11) g ()) + (∑ d : Dev nD, (due d 2 5) g ()) + (∑ d : Dev nD, (due d 1 10) g ()) + (∑ d : Dev nD, (due d 1 4) g ())
      + (∑ d : Dev nD, (due d 0 9) g ()) + (∑ d : Dev nD, (due d 0 3) g ())
      + (∑ d : Dev nD, (tallyAt (barCell (peer 2 d)) () 1 : CellTallies nD τ sig Unit) g ()) + (∑ d : Dev nD, (tallyAt (barCell (peer 1 d)) () 1 : CellTallies nD τ sig Unit) g ())
      + (∑ d : Dev nD, (tallyAt (barCell (peer 0 d)) () 1 : CellTallies nD τ sig Unit) g ()) := by
  rw [← Finset.sum_add_distrib, ← Finset.sum_add_distrib, ← Finset.sum_add_distrib, ← Finset.sum_add_distrib, ← Finset.sum_add_distrib, ← Finset.sum_add_distrib,
    ← Finset.sum_add_distrib, ← Finset.sum_add_distrib]
  refine Finset.sum_congr rfl fun d _ => ?_
  unfold O0 O1 O2 O3 O4 O5 O6 O7 O8 O9
  simp only [Pi.add_apply, Finsupp.add_apply, Pi.zero_apply, Finsupp.zero_apply, Nat.zero_add]

theorem launch_bar (c : Dev nD) :
    tallyOn (barCell c) (launchCredit (Pipeline.owing O0) 0 (barCell c)) = (tallyAt (barCell c) () 3 : CellTallies nD τ sig Unit) := by
  unfold tallyAt; refine congrArg _ (Finsupp.ext fun u => ?_); cases u
  rw [Pipeline.launchCredit_owing, Finsupp.single_eq_same, sum_owed]
  simp only [sum_bar_bar, sum_bar_x]
theorem launch_x3 (c : Dev nD) :
    tallyOn (xCell c 3) (launchCredit (Pipeline.owing O0) 0 (xCell c 3)) = (tallyAt (xCell c 3) () N : CellTallies nD τ sig Unit) := by
  unfold tallyAt; refine congrArg _ (Finsupp.ext fun u => ?_); cases u
  rw [Pipeline.launchCredit_owing, Finsupp.single_eq_same, sum_owed, sum_x_x, sum_x_bar, sum_x_bar, sum_x_bar,
    sum_x_ne 2 11 3 (by decide) c, sum_x_ne 2 5 3 (by decide) c, sum_x_ne 1 10 3 (by decide) c, sum_x_ne 1 4 3 (by decide) c, sum_x_ne 0 9 3 (by decide) c]
  simp only [Nat.zero_add, Nat.add_zero]
theorem launch_x4 (c : Dev nD) :
    tallyOn (xCell c 4) (launchCredit (Pipeline.owing O0) 0 (xCell c 4)) = (tallyAt (xCell c 4) () N : CellTallies nD τ sig Unit) := by
  unfold tallyAt; refine congrArg _ (Finsupp.ext fun u => ?_); cases u
  rw [Pipeline.launchCredit_owing, Finsupp.single_eq_same, sum_owed, sum_x_x, sum_x_bar, sum_x_bar, sum_x_bar,
    sum_x_ne 2 11 4 (by decide) c, sum_x_ne 2 5 4 (by decide) c, sum_x_ne 1 10 4 (by decide) c, sum_x_ne 0 9 4 (by decide) c, sum_x_ne 0 3 4 (by decide) c]
  simp only [Nat.zero_add, Nat.add_zero]
theorem launch_x5 (c : Dev nD) :
    tallyOn (xCell c 5) (launchCredit (Pipeline.owing O0) 0 (xCell c 5)) = (tallyAt (xCell c 5) () N : CellTallies nD τ sig Unit) := by
  unfold tallyAt; refine congrArg _ (Finsupp.ext fun u => ?_); cases u
  rw [Pipeline.launchCredit_owing, Finsupp.single_eq_same, sum_owed, sum_x_x, sum_x_bar, sum_x_bar, sum_x_bar,
    sum_x_ne 2 11 5 (by decide) c, sum_x_ne 1 10 5 (by decide) c, sum_x_ne 1 4 5 (by decide) c, sum_x_ne 0 9 5 (by decide) c, sum_x_ne 0 3 5 (by decide) c]
  simp only [Nat.zero_add, Nat.add_zero]
theorem launch_x9 (c : Dev nD) :
    tallyOn (xCell c 9) (launchCredit (Pipeline.owing O0) 0 (xCell c 9)) = (tallyAt (xCell c 9) () N : CellTallies nD τ sig Unit) := by
  unfold tallyAt; refine congrArg _ (Finsupp.ext fun u => ?_); cases u
  rw [Pipeline.launchCredit_owing, Finsupp.single_eq_same, sum_owed, sum_x_x, sum_x_bar, sum_x_bar, sum_x_bar,
    sum_x_ne 2 11 9 (by decide) c, sum_x_ne 2 5 9 (by decide) c, sum_x_ne 1 10 9 (by decide) c, sum_x_ne 1 4 9 (by decide) c, sum_x_ne 0 3 9 (by decide) c]
  simp only [Nat.zero_add, Nat.add_zero]
theorem launch_x10 (c : Dev nD) :
    tallyOn (xCell c 10) (launchCredit (Pipeline.owing O0) 0 (xCell c 10)) = (tallyAt (xCell c 10) () N : CellTallies nD τ sig Unit) := by
  unfold tallyAt; refine congrArg _ (Finsupp.ext fun u => ?_); cases u
  rw [Pipeline.launchCredit_owing, Finsupp.single_eq_same, sum_owed, sum_x_x, sum_x_bar, sum_x_bar, sum_x_bar,
    sum_x_ne 2 11 10 (by decide) c, sum_x_ne 2 5 10 (by decide) c, sum_x_ne 1 4 10 (by decide) c, sum_x_ne 0 9 10 (by decide) c, sum_x_ne 0 3 10 (by decide) c]
  simp only [Nat.zero_add, Nat.add_zero]
theorem launch_x11 (c : Dev nD) :
    tallyOn (xCell c 11) (launchCredit (Pipeline.owing O0) 0 (xCell c 11)) = (tallyAt (xCell c 11) () N : CellTallies nD τ sig Unit) := by
  unfold tallyAt; refine congrArg _ (Finsupp.ext fun u => ?_); cases u
  rw [Pipeline.launchCredit_owing, Finsupp.single_eq_same, sum_owed, sum_x_x, sum_x_bar, sum_x_bar, sum_x_bar,
    sum_x_ne 2 5 11 (by decide) c, sum_x_ne 1 10 11 (by decide) c, sum_x_ne 1 4 11 (by decide) c, sum_x_ne 0 9 11 (by decide) c, sum_x_ne 0 3 11 (by decide) c]
  simp only [Nat.zero_add, Nat.add_zero]

theorem creds (c : Dev nD) : (Pipeline.launchCred O0 c : sProp 𝕄) ⊢ owedTo c := by
  unfold Pipeline.launchCred owedTo
  refine (bigSep_subset (Finset.subset_univ (Finset.univ.map ⟨csem, csem_injective⟩))).trans ?_
  rw [bigSep_map, list13]
  rw [← launch_bar, ← launch_x3, ← launch_x4, ← launch_x5, ← launch_x9, ← launch_x10, ← launch_x11]
  show iprop(cred (tallyOn (barCell c) (launchCredit (Pipeline.owing O0) 0 (barCell c))) ∗ cred (tallyOn (xCell c 0) (launchCredit (Pipeline.owing O0) 0 (xCell c 0))) ∗ cred (tallyOn (xCell c 1) (launchCredit (Pipeline.owing O0) 0 (xCell c 1))) ∗ cred (tallyOn (xCell c 2) (launchCredit (Pipeline.owing O0) 0 (xCell c 2))) ∗ cred (tallyOn (xCell c 3) (launchCredit (Pipeline.owing O0) 0 (xCell c 3))) ∗ cred (tallyOn (xCell c 4) (launchCredit (Pipeline.owing O0) 0 (xCell c 4))) ∗ cred (tallyOn (xCell c 5) (launchCredit (Pipeline.owing O0) 0 (xCell c 5))) ∗ cred (tallyOn (xCell c 6) (launchCredit (Pipeline.owing O0) 0 (xCell c 6))) ∗ cred (tallyOn (xCell c 7) (launchCredit (Pipeline.owing O0) 0 (xCell c 7))) ∗ cred (tallyOn (xCell c 8) (launchCredit (Pipeline.owing O0) 0 (xCell c 8))) ∗ cred (tallyOn (xCell c 9) (launchCredit (Pipeline.owing O0) 0 (xCell c 9))) ∗ cred (tallyOn (xCell c 10) (launchCredit (Pipeline.owing O0) 0 (xCell c 10))) ∗ cred (tallyOn (xCell c 11) (launchCredit (Pipeline.owing O0) 0 (xCell c 11)))) ⊢ iprop(_)
  iintro ⟨HB, H0, H1, H2, H3, H4, H5, H6, H7, H8, H9, H10, H11⟩
  isplitl [HB]; · iexact HB
  isplitl [H3]; · iexact H3
  isplitl [H4]; · iexact H4
  isplitl [H5]; · iexact H5
  isplitl [H9]; · iexact H9
  isplitl [H10]; · iexact H10
  iexact H11

/-! ## The conditions of the launch -/

theorem start_intro (c : Dev nD) :
    iprop(Pipeline.unscopedRestP Pipeline.Prefetch.none cfg0.spec c (fun b => m ((c : Thread nD τ).loc b)) ∗ levAts L lv
        ∗ Pipeline.launchCred O0 c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hk, Hv⟩
  isplitl [Hs]; · iexact Hs
  isplitl [Hk]; · iexact Hk
  iexact Hv

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems_list, unscopedSems_bar]
  unfold Φ₁ zeros
  iintro ⟨Hk, Hv, HB, Hx⟩
  isplitl [HB]; · iexact HB
  isplitl [Hx]; · iexact Hx
  isplitl [Hk]; · iexists (kG m ρ); iexact Hk
  iexists (vG m ρ); iexact Hv

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every fair run ends, with each device's arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays read are as they were. -/
theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

end Cert.IdealRun
-- ==== Proof.IdealBlock.lean ====
/-
# What one block adds

The kernel takes the keys and values of one device at a time.  A block, its mask, keys and values, adds to each
head the row sums of the exponentials and the values weighted by them; after four blocks the one is divided by
the other, the heads are laid side by side and the output projection applied.  Here is that computation with the
head as a parameter, and what it comes to at an index.
-/
module

public import proofs.«01_k».proof.Proof.IdealVals
public import Idealize.ShloMosaic.Lib.Pointwise

@[expose] public section

set_option maxRecDepth 16384

noncomputable section

namespace Cert.IdealBlock

open Cert.KernelIdeal Cert.KernelIdeal.Gen
open Idealize.ShloMosaic
open Idealize.ShloMosaic.TcCoe

variable {F : FTy → Type} [FloatOps F]

/-- A block: which of its columns each row sees, its keys, its values. -/
structure Blk (F : FTy → Type) where
  mask : IVec S128x128 1
  keys : Vec F S1x128x256 .bf16
  vals : Vec F S1x128x256 .bf16

/-- The heads' columns begin at `o`. -/
abbrev At (o : Nat) : Prop := S128x256.Slices ![0, o] S128x64

def weights (o : Nat) (h : At o) (q : FVec F S128x256 .bf16) (B : Blk F) : FVec F S128x128 .f32 :=
  exp (select B.mask
    (mulf (matmul dot_S128x64_S128x64_S128x128_1_1_0_0_n_n none (extractStridedSlice S128x64 ![0, o] q h)
        (extractStridedSlice S128x64 ![0, o] (shapeCast S128x256 B.keys shapeCasts_S1x128x256_S128x256) h)
        (constant S128x128 .f32 0x00000000#32))
      (broadcast S128x128 (Scalar.ofBits .f32 0x3E000000#32)))
    (broadcast S128x128 (Scalar.ofBits .f32 0xCE6E6B28#32)))

/-- The row sums with the block's added. -/
def addSum (o : Nat) (h : At o) (q : FVec F S128x256 .bf16) (l : FVec F S128x1 .f32) (B : Blk F) : FVec F S128x1 .f32 :=
  addf l (shapeCast S128x1
    (multiReduction .add [1] S128 (weights o h q B) 0x00000000#32 reduces_S128x128_S128 (.inl rfl) rfl) shapeCasts_S128_S128x1)

/-- The weighted values with the block's added. -/
def addVal (o : Nat) (h : At o) (q : FVec F S128x256 .bf16) (a : FVec F S128x64 .f32) (B : Blk F) : FVec F S128x64 .f32 :=
  addf a (matmul dot_S128x128_S128x64_S128x64_1_0_0_1_n_n none (truncf .bf16 (weights o h q B) bitsLt_bf16_f32)
    (extractStridedSlice S128x64 ![0, o] (shapeCast S128x256 B.vals shapeCasts_S1x128x256_S128x256) h)
    (constant S128x64 .f32 0x00000000#32))

/-- One head of the block of rows. -/
def head (o : Nat) (h : At o) (q : FVec F S128x256 .bf16) (B₀ B₁ B₂ B₃ : Blk F) : FVec F S128x64 .bf16 :=
  truncf .bf16 (divf
    (addVal o h q (addVal o h q (addVal o h q (addVal o h q (broadcast S128x64 (Scalar.ofBits .f32 0x00000000#32)) B₀) B₁) B₂) B₃)
    (broadcastTo S128x64
      (addSum o h q (addSum o h q (addSum o h q (addSum o h q (broadcast S128x1 (Scalar.ofBits .f32 0x00000000#32)) B₀) B₁) B₂) B₃)
      broadcasts_S128x1_S128x64)) bitsLt_bf16_f32

/-- The block of rows of the result. -/
def rows (q : FVec F S128x256 .bf16) (wo : FVec F S256x512 .bf16) (B₀ B₁ B₂ B₃ : Blk F) : FVec F S1x128x512 .f32 :=
  shapeCast S1x128x512
    (matmul dot_S128x256_S256x512_S128x512_1_0_0_1_n_n none
      (concatenate S128x256 1 [⟨S128x64, head 0 slices_S128x256_o0_0_S128x64 q B₀ B₁ B₂ B₃⟩,
          ⟨S128x64, head 64 slices_S128x256_o0_64_S128x64 q B₀ B₁ B₂ B₃⟩,
          ⟨S128x64, head 128 slices_S128x256_o0_128_S128x64 q B₀ B₁ B₂ B₃⟩,
          ⟨S128x64, head 192 slices_S128x256_o0_192_S128x64 q B₀ B₁ B₂ B₃⟩]
        concatenates_S128x64_S128x64_S128x64_S128x64_S128x256_d1)
      wo (constant S128x512 .f32 0x00000000#32))
    shapeCasts_S128x512_S1x128x512

end Cert.IdealBlock

namespace Cert.IdealRun

open Cert.KernelIdeal Cert.KernelIdeal.Gen Cert.IdealBlock
open Idealize.ShloMosaic

variable {F : FTy → Type} [FloatOps F]

/-- The four blocks of either batch, in the order the kernel takes them. -/
def own0 (m : Mem F) (ρ : Dev nD → PrngReg) (c : Dev nD) : Blk F := ⟨x137 m ρ c, x140 m ρ c, x144 m ρ c⟩
def right0 (m : Mem F) (ρ : Dev nD → PrngReg) (c : Dev nD) : Blk F := ⟨x302 m ρ c, x305 m ρ c, x309 m ρ c⟩
def left0 (m : Mem F) (ρ : Dev nD → PrngReg) (c : Dev nD) : Blk F := ⟨x467 m ρ c, x470 m ρ c, x474 m ρ c⟩
def diag0 (m : Mem F) (ρ : Dev nD → PrngReg) (c : Dev nD) : Blk F := ⟨x632 m ρ c, x635 m ρ c, x639 m ρ c⟩
def own1 (m : Mem F) (ρ : Dev nD → PrngReg) (c : Dev nD) : Blk F := ⟨x137 m ρ c, x208 m ρ c, x212 m ρ c⟩
def right1 (m : Mem F) (ρ : Dev nD → PrngReg) (c : Dev nD) : Blk F := ⟨x302 m ρ c, x373 m ρ c, x377 m ρ c⟩
def left1 (m : Mem F) (ρ : Dev nD → PrngReg) (c : Dev nD) : Blk F := ⟨x467 m ρ c, x538 m ρ c, x542 m ρ c⟩
def diag1 (m : Mem F) (ρ : Dev nD → PrngReg) (c : Dev nD) : Blk F := ⟨x632 m ρ c, x703 m ρ c, x707 m ρ c⟩

theorem rows_batch0 (m : Mem F) (ρ : Dev nD → PrngReg) (c : Dev nD) :
    x785 m ρ c = rows (x99 m ρ c) (x95 m ρ c) (own0 m ρ c) (right0 m ρ c) (left0 m ρ c) (diag0 m ρ c) := rfl

theorem rows_batch1 (m : Mem F) (ρ : Dev nD → PrngReg) (c : Dev nD) :
    x802 m ρ c = rows (x103 m ρ c) (x95 m ρ c) (own1 m ρ c) (right1 m ρ c) (left1 m ρ c) (diag1 m ρ c) := rfl

end Cert.IdealRun

end
-- ==== Proof.Softmax.lean ====
/-
# The softmax-weighted sum, with and without the shift by the row maximum

Over the extended reals, for finite scores and arbitrary values: dividing every exponential of a score less
the row's maximum by their sum and then taking the weighted sum is dividing the weighted sum of the plain
exponentials by the sum of the plain exponentials.
-/
module

public import Idealize.ShloMosaic.Lib.Pointwise

@[expose] public section

noncomputable section

namespace Cert.Softmax

open Idealize.ShloMosaic

/-- A finite positive factor passes through a sum of extended reals. -/
theorem sum_mul_pos {ι : Type} (s : Finset ι) (f : ι → EReal) {r : ℝ} (hr : 0 < r) :
    (∑ k ∈ s, f k) * (r : EReal) = ∑ k ∈ s, f k * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr.le) (EReal.coe_ne_top r) _ _

/-- A finite sum of finite numbers is finite. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The quotient by a finite number other than zero. -/
theorem div_coe (x : EReal) {r : ℝ} (hr : r ≠ 0) : Ideal.div x (r : EReal) = x * ((r⁻¹ : ℝ) : EReal) := by
  rw [Ideal.div, if_neg (by exact_mod_cast hr), EReal.coe_inv]

/-- The maximum of finitely many finite numbers, at least one, is finite. -/
theorem max_finite {n : ℕ} [NeZero n] (σ : Fin n → ℝ) :
    ∃ μ : ℝ, (Finset.univ.fold max (⊥ : EReal) fun k => (σ k : EReal)) = μ := by
  have e : (Finset.univ.fold max (⊥ : EReal) fun k => (σ k : EReal)) = Finset.univ.sup fun k => (σ k : EReal) := rfl
  rw [e]
  refine ⟨(Finset.univ.sup fun k => (σ k : EReal)).toReal, (EReal.coe_toReal ?_ ?_).symm⟩
  · exact ((Finset.sup_lt_iff (by simp)).mpr fun k _ => EReal.coe_lt_top _).ne
  · exact ((EReal.bot_lt_coe (σ 0)).trans_le
      (Finset.le_sup (f := fun k => (σ k : EReal)) (Finset.mem_univ 0))).ne'

/-- The weighted sum over the plain exponentials, divided once. -/
def once {n : ℕ} (s v : Fin n → EReal) : EReal :=
  Ideal.div (∑ k, Ideal.exp (s k) * v k) (∑ k, Ideal.exp (s k))

/-- The sum weighted by the shifted exponentials' shares. -/
def shares {n : ℕ} (s v : Fin n → EReal) : EReal :=
  ∑ k, v k * Ideal.div (Ideal.exp (s k - Finset.univ.fold max (⊥ : EReal) s))
    (∑ l, Ideal.exp (s l - Finset.univ.fold max (⊥ : EReal) s))

/-- For finite scores the two are one. -/
theorem shares_eq_once {n : ℕ} [NeZero n] (s v : Fin n → EReal) (h : ∀ k, ∃ r : ℝ, s k = r) :
    shares s v = once s v := by
  choose σ hσ using h
  obtain rfl : s = fun k => (σ k : EReal) := funext hσ
  obtain ⟨μ, hμ⟩ := max_finite σ
  have hL : 0 < ∑ k, Real.exp (σ k) := Finset.sum_pos (fun k _ => Real.exp_pos _) ⟨0, Finset.mem_univ _⟩
  have hE : 0 < Real.exp (-μ) := Real.exp_pos _
  have e1 : ∀ k, Ideal.exp ((σ k : EReal) - (μ : EReal)) = ((Real.exp (σ k) * Real.exp (-μ) : ℝ) : EReal) := by
    intro k
    rw [← Real.exp_add, ← sub_eq_add_neg, ← EReal.coe_sub]
    rfl
  have e2 : ∀ k, Ideal.exp (σ k : EReal) = ((Real.exp (σ k) : ℝ) : EReal) := fun k => rfl
  unfold shares once
  simp only [hμ, e1, e2]
  rw [← coe_sum, ← coe_sum, ← Finset.sum_mul, div_coe _ hL.ne', sum_mul_pos _ _ (inv_pos.mpr hL)]
  refine Finset.sum_congr rfl fun k _ => ?_
  rw [div_coe _ (mul_pos hL hE).ne', ← EReal.coe_mul, mul_comm (v k), mul_right_comm ((Real.exp (σ k) : ℝ) : EReal),
    ← EReal.coe_mul]
  congr 2
  field_simp

end Cert.Softmax

end
-- ==== Proof.Attention.lean ====
/-
# Masked attention over the extended reals

The function both programs compute, of the whole arrays: queries from `x` and `Wq`, the masked scaled scores,
the softmax-weighted sum of the values divided once, and the output projection.
-/
module

public import proofs.«01_k».proof.Proof.Softmax

@[expose] public section

noncomputable section

namespace Cert.Attention

open Idealize.ShloMosaic Cert.Softmax

/-- Row `g` sees column `k`, both counted over all 512 positions: near the diagonal, or one of the two among the first 32. -/
def keep (g k : Fin 512) : BitVec 1 :=
  IntOp.ori (IntOp.cmpi .sle (IntOp.absi (IntOp.subi (BitVec.ofNat 32 g) (BitVec.ofNat 32 k))) 128#32)
    (IntOp.ori (IntOp.cmpi .slt (BitVec.ofNat 32 k) 32#32) (IntOp.cmpi .slt (BitVec.ofNat 32 g) 32#32))

/-- A row sees its own column. -/
theorem keep_self (g : Fin 512) : keep g g = 1#1 := by
  have h : IntOp.subi (BitVec.ofNat 32 g) (BitVec.ofNat 32 g) = 0#32 := BitVec.sub_self _
  have e : ∀ w : BitVec 1, IntOp.ori (IntOp.cmpi .sle (IntOp.absi (0#32)) 128#32) w = 1#1 := by decide
  rw [keep, h, e]

/-- A disjunction one of whose terms is true is true. -/
theorem fold_ori {n : ℕ} (f : Fin n → BitVec 1) (g : Fin n) (h : f g = 1#1) :
    Finset.univ.fold IntOp.ori (0#1) f = 1#1 := by
  have e : ∀ w : BitVec 1, IntOp.ori (1#1) w = 1#1 := by decide
  rw [← Finset.insert_erase (Finset.mem_univ g), Finset.fold_insert (Finset.notMem_erase _ _), h, e]

/-- The scale of the scores and the score of a masked pair. -/
abbrev scale : EReal := Ideal.ofBits .f32 0x3E000000#32
abbrev low : EReal := Ideal.ofBits .f32 0xCE6E6B28#32

theorem scale_finite : ∃ r : ℝ, scale = r := by
  simp only [Ideal.ofBits, Ideal.ieee]
  rw [if_neg (by decide), if_neg (by decide)]
  exact ⟨_, rfl⟩
theorem low_finite : ∃ r : ℝ, low = r := by
  simp only [Ideal.ofBits, Ideal.ieee]
  rw [if_neg (by decide), if_neg (by decide)]
  exact ⟨_, rfl⟩
theorem ofBits_bot : Ideal.ofBits .f32 0xFF800000#32 = ⊥ := by simp [Ideal.ofBits, Ideal.ieee]

/-- The arrays of all four devices together. -/
abbrev Acts : Type := (⟨3, ![2, 512, 512]⟩ : Shape).Idx → EReal
abbrev Proj : Type := (⟨2, ![512, 256]⟩ : Shape).Idx → EReal
abbrev Rows : Type := (⟨4, ![2, 512, 4, 64]⟩ : Shape).Idx → EReal
abbrev Back : Type := (⟨2, ![256, 512]⟩ : Shape).Idx → EReal

/-- Column `64 h + d` of the 256. -/
def col (h : Fin 4) (d : Fin 64) : Fin 256 := ⟨h.val * 64 + d.val, by omega⟩
def headOf (j : Fin 256) : Fin 4 := ⟨j.val / 64, by omega⟩
def laneOf (j : Fin 256) : Fin 64 := ⟨j.val % 64, by omega⟩

/-- The scaled score of row `g` against column `k` in head `h`. -/
def score (X : Acts) (W : Proj) (K : Rows) (b : Fin 2) (h : Fin 4) (g k : Fin 512) : EReal :=
  (∑ d : Fin 64, (∑ e : Fin 512, X (ix3 b g e) * W (ix2 e (col h d))) * K (ix4 b k h d)) * scale

/-- The same where the row sees the column, the low value elsewhere. -/
def masked (X : Acts) (W : Proj) (K : Rows) (b : Fin 2) (h : Fin 4) (g k : Fin 512) : EReal :=
  Scalar.select (keep g k) (score X W K b h g k) low

/-- What row `g` of head `h` gathers. -/
def ctx (X : Acts) (W : Proj) (K V : Rows) (b : Fin 2) (g : Fin 512) (h : Fin 4) (d : Fin 64) : EReal :=
  once (masked X W K b h g) fun k => V (ix4 b k h d)

/-- The result. -/
def out (X : Acts) (W : Proj) (K V : Rows) (O : Back) (b : Fin 2) (g e : Fin 512) : EReal :=
  ∑ j : Fin 256, ctx X W K V b g (headOf j) (laneOf j) * O (ix2 j e)

/-- Every element is a real number. -/
def Finite {s : Shape} (f : s.Idx → EReal) : Prop := ∀ i, ∃ r : ℝ, f i = r

theorem sum_finite {n : ℕ} (f : Fin n → EReal) (h : ∀ k, ∃ r : ℝ, f k = r) : ∃ r : ℝ, ∑ k, f k = r := by
  choose σ hσ using h
  exact ⟨∑ k, σ k, by rw [coe_sum]; exact Finset.sum_congr rfl fun k _ => hσ k⟩

theorem mul_finite {x y : EReal} (hx : ∃ r : ℝ, x = r) (hy : ∃ r : ℝ, y = r) : ∃ r : ℝ, x * y = r := by
  obtain ⟨r, rfl⟩ := hx
  obtain ⟨q, rfl⟩ := hy
  exact ⟨r * q, (EReal.coe_mul r q).symm⟩

/-- Of finite activations, query weights and keys every score is finite. -/
theorem masked_finite {X : Acts} {W : Proj} {K : Rows} (hX : Finite X) (hW : Finite W) (hK : Finite K)
    (b : Fin 2) (h : Fin 4) (g k : Fin 512) : ∃ r : ℝ, masked X W K b h g k = r := by
  unfold masked Scalar.select
  split
  · exact mul_finite (sum_finite _ fun d => mul_finite (sum_finite _ fun e => mul_finite (hX _) (hW _)) (hK _)) scale_finite
  · exact low_finite

end Cert.Attention

end
-- ==== Proof.IdealRows.lean ====
/-
# A block of rows of the result, at an index

Over the extended reals: each head is the sum over the four blocks of the weighted values divided by the sum of
the weights, and a row of the result is the heads' row times the output weights.
-/
module

public import proofs.«01_k».proof.Proof.IdealBlock
public import proofs.«01_k».proof.Proof.Attention

@[expose] public section

set_option maxRecDepth 16384

noncomputable section

namespace Cert.IdealBlock

open Cert.KernelIdeal Cert.KernelIdeal.Gen
open Idealize.ShloMosaic
open Idealize.ShloMosaic.TcCoe
open Attention (col headOf laneOf)

/-- The weight of column `k` for row `r` in head `h`. -/
def wt (h : Fin 4) (q : FVec Ideal S128x256 .bf16) (B : Blk Ideal) (r k : Fin 128) : EReal :=
  Ideal.exp (Scalar.select (B.mask (ix2 r k))
    ((∑ d : Fin 64, q (ix2 r (col h d)) * B.keys (ix3 0 k (col h d))) * Attention.scale) Attention.low)

theorem weights_apply (h : Fin 4) (hs : At (h.val * 64)) (q : FVec Ideal S128x256 .bf16) (B : Blk Ideal) (r k : Fin 128) :
    weights (h.val * 64) hs q B (ix2 r k) = wt h q B r k := by
  pointwise [weights]
  rfl

theorem addSum_apply (h : Fin 4) (hs : At (h.val * 64)) (q : FVec Ideal S128x256 .bf16) (l : FVec Ideal S128x1 .f32)
    (B : Blk Ideal) (r : Fin 128) :
    addSum (h.val * 64) hs q l B (ix2 r 0) = l (ix2 r 0) + ∑ k, wt h q B r k := by
  pointwise [addSum]
  simp only [weights_apply]

theorem addVal_apply (h : Fin 4) (hs : At (h.val * 64)) (q : FVec Ideal S128x256 .bf16) (a : FVec Ideal S128x64 .f32)
    (B : Blk Ideal) (r : Fin 128) (d : Fin 64) :
    addVal (h.val * 64) hs q a B (ix2 r d) = a (ix2 r d) + ∑ k, wt h q B r k * B.vals (ix3 0 k (col h d)) := by
  pointwise [addVal]
  simp only [weights_apply]
  rfl

/-- Lane `d` of head `h` in row `r`. -/
def ctxAt (h : Fin 4) (q : FVec Ideal S128x256 .bf16) (B₀ B₁ B₂ B₃ : Blk Ideal) (r : Fin 128) (d : Fin 64) : EReal :=
  Ideal.div
    ((∑ k, wt h q B₀ r k * B₀.vals (ix3 0 k (col h d))) + (∑ k, wt h q B₁ r k * B₁.vals (ix3 0 k (col h d)))
      + (∑ k, wt h q B₂ r k * B₂.vals (ix3 0 k (col h d))) + (∑ k, wt h q B₃ r k * B₃.vals (ix3 0 k (col h d))))
    ((∑ k, wt h q B₀ r k) + (∑ k, wt h q B₁ r k) + (∑ k, wt h q B₂ r k) + (∑ k, wt h q B₃ r k))

theorem head_apply (h : Fin 4) (hs : At (h.val * 64)) (q : FVec Ideal S128x256 .bf16) (B₀ B₁ B₂ B₃ : Blk Ideal)
    (r : Fin 128) (d : Fin 64) : head (h.val * 64) hs q B₀ B₁ B₂ B₃ (ix2 r d) = ctxAt h q B₀ B₁ B₂ B₃ r d := by
  pointwise [head]
  simp only [addSum_apply, addVal_apply]
  have z : ∀ {s : Shape} (i : s.Idx), broadcast s (0 : EReal) i = 0 := fun i => rfl
  simp only [z, zero_add]
  rfl

theorem rows_apply (q : FVec Ideal S128x256 .bf16) (wo : FVec Ideal S256x512 .bf16) (B₀ B₁ B₂ B₃ : Blk Ideal)
    (r : Fin 128) (e : Fin 512) :
    rows q wo B₀ B₁ B₂ B₃ (ix3 0 r e) = ∑ j : Fin 256, ctxAt (headOf j) q B₀ B₁ B₂ B₃ r (laneOf j) * wo (ix2 j e) := by
  pointwise [rows]
  refine Finset.sum_congr rfl fun j _ => congrArg (· * wo (ix2 j e)) ?_
  have key : ∀ (h : Fin 4) (hs : At (h.val * 64)) (d : Fin 64), h.val = j.val / 64 → d.val = j.val % 64 →
      head (h.val * 64) hs q B₀ B₁ B₂ B₃ (ix2 r d) = ctxAt (headOf j) q B₀ B₁ B₂ B₃ r (laneOf j) := by
    intro h hs d e1 e2
    obtain rfl : h = headOf j := Fin.ext e1
    obtain rfl : d = laneOf j := Fin.ext e2
    exact head_apply _ hs q B₀ B₁ B₂ B₃ r _
  have hj : j.val < 256 := j.isLt
  by_cases h0 : j.val < 64
  · rw [dif_pos h0]
    exact key 0 slices_S128x256_o0_0_S128x64 ⟨j.val, h0⟩ (by show 0 = _; omega) (by show j.val = _; omega)
  rw [dif_neg h0]
  by_cases h1 : j.val - 64 < 64
  · rw [dif_pos h1]
    exact key 1 slices_S128x256_o0_64_S128x64 ⟨j.val - 64, h1⟩ (by show 1 = _; omega) (by show j.val - 64 = _; omega)
  rw [dif_neg h1]
  by_cases h2 : j.val - 64 - 64 < 64
  · rw [dif_pos h2]
    exact key 2 slices_S128x256_o0_128_S128x64 ⟨j.val - 64 - 64, h2⟩ (by show 2 = _; omega)
      (by show j.val - 64 - 64 = _; omega)
  rw [dif_neg h2]
  exact key 3 slices_S128x256_o0_192_S128x64 ⟨j.val - 64 - 64 - 64, by omega⟩ (by show 3 = _; omega)
    (by show j.val - 64 - 64 - 64 = _; omega)

end Cert.IdealBlock

end
-- ==== Proof.IdealInputs.lean ====
/-
# What the blocks hold

The queries of a device's rows, and of each block the keys, the values and the mask, in terms of the devices'
own arrays.
-/
module

public import proofs.«01_k».proof.Proof.IdealRows
public import proofs.«01_k».proof.Proof.IdealParts

@[expose] public section

set_option maxRecDepth 16384

noncomputable section

namespace Cert.IdealRun

open Cert.KernelIdeal Cert.KernelIdeal.Gen Cert.IdealBlock
open Idealize.ShloMosaic
open Idealize.ShloMosaic.TcCoe
open Attention (col headOf laneOf keep)

variable (m : Mem Ideal) (ρ : Dev nD → PrngReg) (c : Dev nD)

/-! ## The staged arrays are the arguments -/

theorem from_zero (n : Nat) : 0 + 1 * n = n := by omega

theorem xS_eq : xS m ρ c = m ((c : Thread nD τ).loc main_arg0) :=
  funext fun i => congrArg (m ((c : Thread nD τ).loc main_arg0)) (funext fun a => Fin.ext (match a with
    | ⟨0, _⟩ => from_zero (i 0).val | ⟨1, _⟩ => from_zero (i 1).val | ⟨2, _⟩ => from_zero (i 2).val))
theorem wqS_eq : wqS m ρ c = m ((c : Thread nD τ).loc main_arg1) :=
  funext fun i => congrArg (m ((c : Thread nD τ).loc main_arg1)) (funext fun a => Fin.ext (match a with
    | ⟨0, _⟩ => from_zero (i 0).val | ⟨1, _⟩ => from_zero (i 1).val))
theorem kS_eq : kS m ρ c = m ((c : Thread nD τ).loc main_arg2) :=
  funext fun i => congrArg (m ((c : Thread nD τ).loc main_arg2)) (funext fun a => Fin.ext (match a with
    | ⟨0, _⟩ => from_zero (i 0).val | ⟨1, _⟩ => from_zero (i 1).val | ⟨2, _⟩ => from_zero (i 2).val
    | ⟨3, _⟩ => from_zero (i 3).val))
theorem vS_eq : vS m ρ c = m ((c : Thread nD τ).loc main_arg3) :=
  funext fun i => congrArg (m ((c : Thread nD τ).loc main_arg3)) (funext fun a => Fin.ext (match a with
    | ⟨0, _⟩ => from_zero (i 0).val | ⟨1, _⟩ => from_zero (i 1).val | ⟨2, _⟩ => from_zero (i 2).val
    | ⟨3, _⟩ => from_zero (i 3).val))
theorem woS_eq : woS m ρ c = m ((c : Thread nD τ).loc main_arg4) :=
  funext fun i => congrArg (m ((c : Thread nD τ).loc main_arg4)) (funext fun a => Fin.ext (match a with
    | ⟨0, _⟩ => from_zero (i 0).val | ⟨1, _⟩ => from_zero (i 1).val))

/-! ## Queries and output weights -/

/-- A load of a part of an array reads it at the part's places. -/
theorem load_at {r : Ref sig .tc} (R : Rect r.ty.shape) (f : r.ty.Contents (Elt Ideal)) (x : R.shape.Idx) :
    (Memref.whole r).view.readAt (Elt Ideal) R.toLoadRect f x = f (R.idx x) := rfl

theorem x96_apply (r : Fin 128) (e : Fin 512) : x96 m ρ c (ix3 0 r e) = xS m ρ c (ix3 0 r e) :=
  (load_at _ _ _).trans (congrArg (xS m ρ c) (funext fun a => Fin.ext (match a with
    | ⟨0, _⟩ => rfl | ⟨1, _⟩ => from_zero r.val | ⟨2, _⟩ => from_zero e.val)))
theorem x100_apply (r : Fin 128) (e : Fin 512) : x100 m ρ c (ix3 0 r e) = xS m ρ c (ix3 1 r e) :=
  (load_at _ _ _).trans (congrArg (xS m ρ c) (funext fun a => Fin.ext (match a with
    | ⟨0, _⟩ => rfl | ⟨1, _⟩ => from_zero r.val | ⟨2, _⟩ => from_zero e.val)))
theorem x92_apply (e : Fin 512) (j : Fin 256) : x92 m ρ c (ix2 e j) = wqS m ρ c (ix2 e j) :=
  (load_at _ _ _).trans (congrArg (wqS m ρ c) (funext fun a => Fin.ext (match a with
    | ⟨0, _⟩ => from_zero e.val | ⟨1, _⟩ => from_zero j.val)))
theorem x94_apply (j : Fin 256) (e : Fin 512) : x94 m ρ c (ix2 j e) = woS m ρ c (ix2 j e) :=
  (load_at _ _ _).trans (congrArg (woS m ρ c) (funext fun a => Fin.ext (match a with
    | ⟨0, _⟩ => from_zero j.val | ⟨1, _⟩ => from_zero e.val)))

/-- Row `r` of batch `b` of the device's activations times column `j` of the query weights. -/
def query (X : Vec Ideal S2x128x512 .bf16) (W : Vec Ideal S512x256 .bf16) (b : Fin 2) (r : Fin 128) (j : Fin 256) : EReal :=
  ∑ e : Fin 512, X (ix3 b r e) * W (ix2 e j)

theorem query0 (r : Fin 128) (j : Fin 256) : x99 m ρ c (ix2 r j) = query (xS m ρ c) (wqS m ρ c) 0 r j := by
  pointwise [x99, k0_pay5, k0_pay3]
  simp only [x96_apply, x92_apply]
  rfl

theorem query1 (r : Fin 128) (j : Fin 256) : x103 m ρ c (ix2 r j) = query (xS m ρ c) (wqS m ρ c) 1 r j := by
  pointwise [x103, k0_pay6, k0_pay3]
  simp only [x100_apply, x92_apply]
  rfl

theorem output (j : Fin 256) (e : Fin 512) : x95 m ρ c (ix2 j e) = woS m ρ c (ix2 j e) := by
  pointwise [x95, k0_pay4]
  exact x94_apply m ρ c j e

/-! ## Gathered keys and values -/

/-- Row `128 p + k` of the 512. -/
def row (p : Fin 4) (k : Fin 128) : Fin 512 := ⟨128 * p.val + k.val, by omega⟩

theorem rowDev_row (p : Fin 4) (b : Fin 2) (k : Fin 128) (j : Fin 256) : rowDev (ix3 b (row p k) j) = p :=
  Fin.ext (by show (128 * p.val + k.val) / 128 = p.val; omega)

theorem rowIdx_row (p : Fin 4) (b : Fin 2) (k : Fin 128) (j : Fin 256) : rowIdx (ix3 b (row p k) j) = ix3 b k j :=
  funext fun a => Fin.ext (match a with
    | ⟨0, _⟩ => rfl | ⟨1, _⟩ => (by show (128 * p.val + k.val) % 128 = k.val; omega) | ⟨2, _⟩ => rfl)

theorem kG_apply (p : Fin 4) (b : Fin 2) (k : Fin 128) (j : Fin 256) :
    kG m ρ (ix3 b (row p k) j) = kS m ρ p (ix4 b k (headOf j) (laneOf j)) := by
  unfold kG
  rw [rowDev_row, rowIdx_row]
  pointwise [k0_pay1]
  rfl

theorem vG_apply (p : Fin 4) (b : Fin 2) (k : Fin 128) (j : Fin 256) :
    vG m ρ (ix3 b (row p k) j) = vS m ρ p (ix4 b k (headOf j) (laneOf j)) := by
  unfold vG
  rw [rowDev_row, rowIdx_row]
  pointwise [k0_pay2]
  rfl

/-- The place in the gathered arrays of a row of the part that begins at row `128 p` of batch `b`. -/
theorem part_idx {off : Fin 3 → Nat} (hin) (p : Fin 4) (b : Fin 2) (ho : off = ![b.val, 128 * p.val, 0]) (k : Fin 128) (j : Fin 256) :
    (Rect.unit (s := S2x512x256) off S1x128x256.size hin).idx (ix3 0 k j) = ix3 b (row p k) j := by
  subst ho
  exact funext fun a => Fin.ext (match a with
    | ⟨0, _⟩ => (by show b.val + 1 * 0 = b.val; omega) | ⟨1, _⟩ => (by show 128 * p.val + 1 * k.val = 128 * p.val + k.val; omega)
    | ⟨2, _⟩ => from_zero j.val)

/-- Block `B` is device `p`'s, of batch `b`, seen from the rows of device `c`. -/
structure Holds (B : Blk Ideal) (b : Fin 2) (p : Fin 4) : Prop where
  mask : ∀ r k, B.mask (ix2 r k) = keep (row c r) (row p k)
  keys : ∀ k j, B.keys (ix3 0 k j) = kS m ρ p (ix4 b k (headOf j) (laneOf j))
  vals : ∀ k j, B.vals (ix3 0 k j) = vS m ρ p (ix4 b k (headOf j) (laneOf j))

/-! ## The masks -/

/-- The mask as the kernel forms it, from the words of the two devices. -/
theorem mask_at (c p : Fin 4) (r k : Fin 128) :
    IntOp.ori (IntOp.ori
        (IntOp.cmpi .sle (IntOp.absi (IntOp.subi (IntOp.addi (BitVec.ofNat 32 r) (IntOp.muli (BitVec.ofNat 32 c) 128#32))
          (IntOp.addi (BitVec.ofNat 32 k) (IntOp.muli (BitVec.ofNat 32 p) 128#32)))) 128#32)
        (IntOp.cmpi .slt (IntOp.addi (BitVec.ofNat 32 k) (IntOp.muli (BitVec.ofNat 32 p) 128#32)) 32#32))
      (IntOp.cmpi .slt (IntOp.addi (BitVec.ofNat 32 r) (IntOp.muli (BitVec.ofNat 32 c) 128#32)) 32#32)
      = keep (row c r) (row p k) := by
  have e : ∀ (q : Fin 4) (n : Fin 128), IntOp.addi (BitVec.ofNat 32 n) (IntOp.muli (BitVec.ofNat 32 q) 128#32) = BitVec.ofNat 32 (row q n) := by
    intro q n
    show BitVec.ofNat 32 n.val + BitVec.ofNat 32 q.val * BitVec.ofNat 32 128 = BitVec.ofNat 32 (128 * q.val + n.val)
    rw [← BitVec.ofNat_mul, ← BitVec.ofNat_add, Nat.add_comm, Nat.mul_comm]
  have o : ∀ u v w : BitVec 1, IntOp.ori (IntOp.ori u v) w = IntOp.ori u (IntOp.ori v w) := by decide
  rw [e, e, o]
  rfl

/-- The words of the device and of its three peers. -/
theorem word_own : x2 m ρ c = BitVec.ofNat 32 c.val := by
  unfold x2 x1 x0
  exact (show ∀ c : Dev nD, Scalar.remsi (Scalar.divsi (Dev.word c) 1#32) 4#32 = BitVec.ofNat 32 c.val by decide +kernel) c
theorem word_left : x4 m ρ c = BitVec.ofNat 32 (peer 0 c).val := by
  unfold x4 x3
  rw [word_own]
  exact (show ∀ c : Dev nD, Scalar.remsi (Scalar.addi (BitVec.ofNat 32 c.val) 3#32) 4#32 = BitVec.ofNat 32 (peer 0 c).val by decide +kernel) c
theorem word_right : x6 m ρ c = BitVec.ofNat 32 (peer 1 c).val := by
  unfold x6 x5
  rw [word_own]
  exact (show ∀ c : Dev nD, Scalar.remsi (Scalar.addi (BitVec.ofNat 32 c.val) 1#32) 4#32 = BitVec.ofNat 32 (peer 1 c).val by decide +kernel) c
theorem word_diag : x8 m ρ c = BitVec.ofNat 32 (peer 2 c).val := by
  unfold x8 x7
  rw [word_own]
  exact (show ∀ c : Dev nD, Scalar.remsi (Scalar.addi (BitVec.ofNat 32 c.val) 2#32) 4#32 = BitVec.ofNat 32 (peer 2 c).val by decide +kernel) c

theorem own_mask (r k : Fin 128) : x137 m ρ c (ix2 r k) = keep (row c r) (row c k) := by
  pointwise [x137, k0_pay24, x107, k0_pay7, x108]
  rw [word_own]
  exact mask_at c c r k
theorem right_mask (r k : Fin 128) : x302 m ρ c (ix2 r k) = keep (row c r) (row (peer 1 c) k) := by
  pointwise [x302, k0_pay57, x107, k0_pay7, x108]
  rw [word_own, word_right]
  exact mask_at c (peer 1 c) r k
theorem left_mask (r k : Fin 128) : x467 m ρ c (ix2 r k) = keep (row c r) (row (peer 0 c) k) := by
  pointwise [x467, k0_pay90, x107, k0_pay7, x108]
  rw [word_own, word_left]
  exact mask_at c (peer 0 c) r k
theorem diag_mask (r k : Fin 128) : x632 m ρ c (ix2 r k) = keep (row c r) (row (peer 2 c) k) := by
  pointwise [x632, k0_pay125, x107, k0_pay7, x108]
  rw [word_own, word_diag]
  exact mask_at c (peer 2 c) r k

/-! ## The blocks -/

/-- The rows of device `p` in batch `b`, loaded from the gathered arrays, with the mask for them. -/
theorem holds_of {off : Fin 3 → Nat} (hin) (p : Fin 4) (b : Fin 2) (ho : off = ![b.val, 128 * p.val, 0])
    (w : IVec S128x128 1) (hw : ∀ r k, w (ix2 r k) = keep (row c r) (row p k)) :
    Holds m ρ c ⟨w,
      (Memref.whole cc0_scratch0).view.readAt (Elt Ideal) (Rect.unit (s := S2x512x256) off S1x128x256.size hin).toLoadRect (kG m ρ),
      (Memref.whole cc0_scratch1).view.readAt (Elt Ideal) (Rect.unit (s := S2x512x256) off S1x128x256.size hin).toLoadRect (vG m ρ)⟩
      b p where
  mask := hw
  keys k j := (congrArg (kG m ρ) (part_idx hin p b ho k j)).trans (kG_apply m ρ p b k j)
  vals k j := (congrArg (vG m ρ) (part_idx hin p b ho k j)).trans (vG_apply m ρ p b k j)

theorem own0_holds : Holds m ρ c (own0 m ρ c) 0 c := holds_of m ρ c _ c 0 (k0_off3_eq c) _ (own_mask m ρ c)
theorem right0_holds : Holds m ρ c (right0 m ρ c) 0 (peer 1 c) := holds_of m ρ c _ (peer 1 c) 0 (o6_1 c) _ (right_mask m ρ c)
theorem left0_holds : Holds m ρ c (left0 m ρ c) 0 (peer 0 c) := holds_of m ρ c _ (peer 0 c) 0 (o6_3 c) _ (left_mask m ρ c)
theorem diag0_holds : Holds m ρ c (diag0 m ρ c) 0 (peer 2 c) := holds_of m ρ c _ (peer 2 c) 0 (o6_2 c) _ (diag_mask m ρ c)
theorem own1_holds : Holds m ρ c (own1 m ρ c) 1 c := holds_of m ρ c _ c 1 (k0_off4_eq c) _ (own_mask m ρ c)
theorem right1_holds : Holds m ρ c (right1 m ρ c) 1 (peer 1 c) := holds_of m ρ c _ (peer 1 c) 1 (o7_1 c) _ (right_mask m ρ c)
theorem left1_holds : Holds m ρ c (left1 m ρ c) 1 (peer 0 c) := holds_of m ρ c _ (peer 0 c) 1 (o7_3 c) _ (left_mask m ρ c)
theorem diag1_holds : Holds m ρ c (diag1 m ρ c) 1 (peer 2 c) := holds_of m ρ c _ (peer 2 c) 1 (o7_2 c) _ (diag_mask m ρ c)

end Cert.IdealRun

end
-- ==== Proof.Equation.lean ====
/-
# The kernel's rows are rows of the whole attention

When the devices' arguments are the parts of the whole arrays, the result of device `c` is its 128 rows of the
masked attention of the whole arrays: the four blocks' sums are the sum over all 512 columns.
-/
module

public import proofs.«01_k».proof.Proof.IdealInputs

@[expose] public section

set_option maxRecDepth 16384

noncomputable section

namespace Cert.IdealRun

open Cert.KernelIdeal Cert.KernelIdeal.Gen Cert.IdealBlock
open Idealize.ShloMosaic
open Idealize.ShloMosaic.TcCoe
open Attention (col headOf laneOf keep)

/-- The 512 rows are the four devices' 128. -/
theorem sum_rows {α : Type} [AddCommMonoid α] (f : Fin 512 → α) : ∑ g, f g = ∑ p : Fin 4, ∑ k : Fin 128, f (row p k) := by
  rw [← Fintype.sum_prod_type' (fun p k => f (row p k))]
  exact (Fintype.sum_equiv (finProdFinEquiv (m := 4) (n := 128)) _ f fun x =>
    congrArg f (Fin.ext (by show 128 * x.1.val + x.2.val = x.2.val + 128 * x.1.val; omega))).symm

/-- The four devices are the device itself, its right one, its left one and the opposite one. -/
theorem sum_devs {α : Type} [AddCommMonoid α] (f : Fin 4 → α) (c : Fin 4) :
    f c + f (peer 1 c) + f (peer 0 c) + f (peer 2 c) = ∑ p, f p := by
  rw [Fin.sum_univ_four]
  fin_cases c
  · show f 0 + f 1 + f 3 + f 2 = _; ac_rfl
  · show f 1 + f 2 + f 0 + f 3 = _; ac_rfl
  · show f 2 + f 3 + f 1 + f 0 = _; ac_rfl
  · show f 3 + f 0 + f 2 + f 1 = _; ac_rfl

theorem headOf_col (h : Fin 4) (d : Fin 64) : headOf (col h d) = h :=
  Fin.ext (by show (h.val * 64 + d.val) / 64 = h.val; omega)
theorem laneOf_col (h : Fin 4) (d : Fin 64) : laneOf (col h d) = d :=
  Fin.ext (by show (h.val * 64 + d.val) % 64 = d.val; omega)

variable (m : Mem Ideal) (ρ : Dev nD → PrngReg)

/-- The devices' arguments are the parts of the whole arrays. -/
structure Parts (X : Attention.Acts) (W : Attention.Proj) (K V : Attention.Rows) (O : Attention.Back) : Prop where
  acts : ∀ (p : Fin 4) b r e, xS m ρ p (ix3 b r e) = X (ix3 b (row p r) e)
  proj : ∀ (p : Fin 4) e j, wqS m ρ p (ix2 e j) = W (ix2 e j)
  keys : ∀ (p : Fin 4) b k h d, kS m ρ p (ix4 b k h d) = K (ix4 b (row p k) h d)
  vals : ∀ (p : Fin 4) b k h d, vS m ρ p (ix4 b k h d) = V (ix4 b (row p k) h d)
  back : ∀ (p : Fin 4) j e, woS m ρ p (ix2 j e) = O (ix2 j e)

variable {m ρ} {X : Attention.Acts} {W : Attention.Proj} {K V : Attention.Rows} {O : Attention.Back}

/-- The weight in a block is the exponential of the masked score. -/
theorem wt_eq (P : Parts m ρ X W K V O) {c p : Fin 4} {B : Blk Ideal} {b : Fin 2} (H : Holds m ρ c B b p)
    {q : FVec Ideal S128x256 .bf16} (hq : ∀ r j, q (ix2 r j) = query (xS m ρ c) (wqS m ρ c) b r j) (h : Fin 4) (r k : Fin 128) :
    wt h q B r k = Ideal.exp (Attention.masked X W K b h (row c r) (row p k)) := by
  unfold wt Attention.masked Attention.score
  simp only [H.mask, H.keys, hq, query, P.acts, P.proj, P.keys, headOf_col, laneOf_col]

/-- A head of the device's rows. -/
theorem ctxAt_eq (P : Parts m ρ X W K V O) {c : Fin 4} {b : Fin 2} {B₀ B₁ B₂ B₃ : Blk Ideal}
    (H₀ : Holds m ρ c B₀ b c) (H₁ : Holds m ρ c B₁ b (peer 1 c)) (H₂ : Holds m ρ c B₂ b (peer 0 c)) (H₃ : Holds m ρ c B₃ b (peer 2 c))
    {q : FVec Ideal S128x256 .bf16} (hq : ∀ r j, q (ix2 r j) = query (xS m ρ c) (wqS m ρ c) b r j)
    (h : Fin 4) (r : Fin 128) (d : Fin 64) :
    ctxAt h q B₀ B₁ B₂ B₃ r d = Attention.ctx X W K V b (row c r) h d := by
  unfold ctxAt Attention.ctx Softmax.once
  simp only [wt_eq P H₀ hq, wt_eq P H₁ hq, wt_eq P H₂ hq, wt_eq P H₃ hq, H₀.vals, H₁.vals, H₂.vals, H₃.vals, P.vals,
    headOf_col, laneOf_col]
  rw [sum_rows, sum_rows, ← sum_devs _ c, ← sum_devs _ c]

/-- The device's rows of the result in either batch. -/
theorem rows_eq (P : Parts m ρ X W K V O) {c : Fin 4} {b : Fin 2} {B₀ B₁ B₂ B₃ : Blk Ideal}
    (H₀ : Holds m ρ c B₀ b c) (H₁ : Holds m ρ c B₁ b (peer 1 c)) (H₂ : Holds m ρ c B₂ b (peer 0 c)) (H₃ : Holds m ρ c B₃ b (peer 2 c))
    {q : FVec Ideal S128x256 .bf16} (hq : ∀ r j, q (ix2 r j) = query (xS m ρ c) (wqS m ρ c) b r j) (r : Fin 128) (e : Fin 512) :
    rows q (x95 m ρ c) B₀ B₁ B₂ B₃ (ix3 0 r e) = Attention.out X W K V O b (row c r) e := by
  rw [rows_apply]
  unfold Attention.out
  simp only [ctxAt_eq P H₀ H₁ H₂ H₃ hq, output, P.back]

/-- The result of device `c`. -/
theorem outAt_eq (P : Parts m ρ X W K V O) (c : Fin 4) (b : Fin 2) (r : Fin 128) (e : Fin 512) :
    outAt m ρ c (ix3 b r e) = Attention.out X W K V O b (row c r) e := by
  have hi : inBatch (ix3 b r e) = ix3 0 r e := funext fun a => match a with | ⟨0, _⟩ => rfl | ⟨1, _⟩ => rfl | ⟨2, _⟩ => rfl
  unfold outAt
  rw [hi]
  fin_cases b
  · refine (if_pos rfl).trans ?_
    rw [rows_batch0]
    exact rows_eq P (own0_holds m ρ c) (right0_holds m ρ c) (left0_holds m ρ c) (diag0_holds m ρ c) (query0 m ρ c) r e
  · refine (if_neg (show ¬ (1 : Nat) = 0 by decide)).trans ?_
    rw [rows_batch1]
    exact rows_eq P (own1_holds m ρ c) (right1_holds m ρ c) (left1_holds m ρ c) (diag1_holds m ρ c) (query1 m ρ c) r e

end Cert.IdealRun

end
-- ==== Proof.Result.lean ====
/-
# The result array, and the devices' parts of the whole arrays

The array the kernel leaves on a device is the computed one; the precondition makes activations, query weights and
keys finite, on a device and so in the whole arrays; and the layout of the claim is the one of the row numbers.
-/
module

public import proofs.«01_k».proof.Proof.Equation
public import proofs.«01_k».proof.Proof.IdealLaunch
public import proofs.«01_k».proof.Pre_scores_finite_KernelIdeal
public import Idealize.ShloMosaic.Lib.Layout

@[expose] public section

set_option maxRecDepth 16384

noncomputable section

namespace Cert.IdealRun

open Cert.KernelIdeal Cert.KernelIdeal.Gen Cert.IdealBlock
open Idealize.ShloMosaic
open Idealize.ShloMosaic.TcCoe
open Attention (col headOf laneOf keep Finite)

/-! ## The result array -/

/-- After the run the result array of device `c` holds what its body computed. -/
theorem final_result (m : Mem Ideal) (ρ : Dev nD → PrngReg) (c : Dev nD) : finalA m ρ c 5 = outAt m ρ c := by
  have h : ((cfg0.win (5 : Fin 6)).blk t0_0).view.read (Elt Ideal) (finalA m ρ c 5) = (dats m ρ 0 c).flushed (5 : Fin 6) t0_0 := by
    unfold finalA
    rw [show cfg0.N = (t0_0 : Fin cfg0.N).val + 1 from rfl, (dats m ρ 0 c).arrAt_succ (5 : Fin 6) t0_0,
      show (cfg0.win (5 : Fin 6)).flush t0_0 = true from by decide, if_pos rfl]
    exact View.read_write_univ _ _
  funext i
  refine Eq.trans ?_ ((congrFun h i).trans rfl)
  exact congrArg (finalA m ρ c 5) (funext fun a => Fin.ext (match a with
    | ⟨0, _⟩ => (from_zero (i 0).val).symm | ⟨1, _⟩ => (from_zero (i 1).val).symm | ⟨2, _⟩ => (from_zero (i 2).val).symm))

/-! ## The layout -/

/-- Device `p`'s part of an array cut along the rows holds rows `128 p`, … -/
theorem block3 (v : (⟨3, ![2, 512, 512]⟩ : Shape).Idx → EReal) (p : Fin 4) (b : Fin 2) (r : Fin 128) (e : Fin 512) :
    Layout.block ⟨3, ![2, 128, 512]⟩ ⟨3, ![2, 512, 512]⟩ 1 4 p v (by decide) (ix3 b r e) = v (ix3 b (row p r) e) :=
  congrArg v (funext fun a => Fin.ext (match a with
    | ⟨0, _⟩ => rfl | ⟨1, _⟩ => (by show p.val * 128 + r.val = 128 * p.val + r.val; omega) | ⟨2, _⟩ => rfl))

theorem block4 (v : (⟨4, ![2, 512, 4, 64]⟩ : Shape).Idx → EReal) (p : Fin 4) (b : Fin 2) (k : Fin 128) (h : Fin 4) (d : Fin 64) :
    Layout.block ⟨4, ![2, 128, 4, 64]⟩ ⟨4, ![2, 512, 4, 64]⟩ 1 4 p v (by decide) (ix4 b k h d) = v (ix4 b (row p k) h d) :=
  congrArg v (funext fun a => Fin.ext (match a with
    | ⟨0, _⟩ => rfl | ⟨1, _⟩ => (by show p.val * 128 + k.val = 128 * p.val + k.val; omega) | ⟨2, _⟩ => rfl | ⟨3, _⟩ => rfl))

/-- Every row is some device's. -/
theorem row_surj (g : Fin 512) : ∃ (p : Fin 4) (r : Fin 128), g = row p r :=
  ⟨⟨g.val / 128, by omega⟩, ⟨g.val % 128, by omega⟩, Fin.ext (by show g.val = 128 * (g.val / 128) + g.val % 128; omega)⟩

/-! ## Finite inputs -/

/-- A number whose absolute value is below infinity is a real number. -/
theorem finite_of_lt {x : EReal} (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  have h' : max x (-x) < ⊤ := by
    rw [ht] at h
    by_contra hn
    rw [Ideal.cmp, decide_eq_false hn] at h
    exact absurd h (by decide)
  obtain ⟨h1, h2⟩ := max_lt_iff.mp h'
  exact ⟨x.toReal, (EReal.coe_toReal h1.ne fun hb => by rw [hb] at h2; exact absurd h2 (by simp)).symm⟩

/-- The shape facts of the precondition. -/
theorem finite_facts : Cert.Pre_scores_finite_KernelIdeal.Facts := ⟨by decide, by decide, by decide, by decide⟩

attribute [local instance] finite_facts

/-- What the precondition says of a device's blocks. -/
theorem finite_blocks {x : Vec Ideal S2x128x512 .bf16} {w : Vec Ideal S512x256 .bf16} {k v : Vec Ideal S2x128x4x64 .bf16}
    {o : Vec Ideal S256x512 .bf16}
    (h : (Cert.Pre_scores_finite_KernelIdeal.fn (F := Ideal) x w k v o).1 = (fun _ => 1#1)
      ∧ (Cert.Pre_scores_finite_KernelIdeal.fn (F := Ideal) x w k v o).2.1 = (fun _ => 1#1)
      ∧ (Cert.Pre_scores_finite_KernelIdeal.fn (F := Ideal) x w k v o).2.2 = (fun _ => 1#1)) :
    Finite (s := S2x128x512) x ∧ Finite (s := S512x256) w ∧ Finite (s := S2x128x4x64) k :=
  ⟨fun i => finite_of_lt (congrFun h.1 i), fun i => finite_of_lt (congrFun h.2.1 i), fun i => finite_of_lt (congrFun h.2.2 i)⟩

/-- Finite parts make a finite whole. -/
theorem whole_acts {v : Attention.Acts}
    (h : ∀ p : Fin 4, Finite (s := ⟨3, ![2, 128, 512]⟩) (Layout.block ⟨3, ![2, 128, 512]⟩ ⟨3, ![2, 512, 512]⟩ 1 4 p v (by decide))) : Finite v := by
  intro i
  obtain ⟨p, r, hr⟩ := row_surj (i 1)
  obtain ⟨q, hq⟩ := h p (ix3 (i 0) r (i 2))
  have e : v (ix3 (i 0) (i 1) (i 2)) = q := (congrArg (fun g => v (ix3 (i 0) g (i 2))) hr).trans ((block3 v p (i 0) r (i 2)).symm.trans hq)
  exact ⟨q, (congrArg v (eq_ix3 i)).trans e⟩

theorem whole_rows {v : Attention.Rows}
    (h : ∀ p : Fin 4, Finite (s := ⟨4, ![2, 128, 4, 64]⟩) (Layout.block ⟨4, ![2, 128, 4, 64]⟩ ⟨4, ![2, 512, 4, 64]⟩ 1 4 p v (by decide))) : Finite v := by
  intro i
  obtain ⟨p, r, hr⟩ := row_surj (i 1)
  obtain ⟨q, hq⟩ := h p (ix4 (i 0) r (i 2) (i 3))
  have e : v (ix4 (i 0) (i 1) (i 2) (i 3)) = q :=
    (congrArg (fun g => v (ix4 (i 0) g (i 2) (i 3))) hr).trans ((block4 v p (i 0) r (i 2) (i 3)).symm.trans hq)
  exact ⟨q, (congrArg v (eq_ix4 i)).trans e⟩

/-! ## A device's result -/

/-- When the devices' arguments are the parts of the whole arrays, device `c` leaves its rows of the attention. -/
theorem result_rows (m : Mem Ideal) (ρ : Dev nD → PrngReg) (X : Attention.Acts) (W : Attention.Proj) (K V : Attention.Rows)
    (O : Attention.Back)
    (h : ∀ c : Dev nD, m ((c : Thread nD τ).loc main_arg0) = Layout.block ⟨3, ![2, 128, 512]⟩ ⟨3, ![2, 512, 512]⟩ 1 4 c X (by decide)
      ∧ m ((c : Thread nD τ).loc main_arg1) = W
      ∧ m ((c : Thread nD τ).loc main_arg2) = Layout.block ⟨4, ![2, 128, 4, 64]⟩ ⟨4, ![2, 512, 4, 64]⟩ 1 4 c K (by decide)
      ∧ m ((c : Thread nD τ).loc main_arg3) = Layout.block ⟨4, ![2, 128, 4, 64]⟩ ⟨4, ![2, 512, 4, 64]⟩ 1 4 c V (by decide)
      ∧ m ((c : Thread nD τ).loc main_arg4) = O) (c : Dev nD) :
    finalA m ρ c 5 = Layout.block ⟨3, ![2, 128, 512]⟩ ⟨3, ![2, 512, 512]⟩ 1 4 c
      (fun i : (⟨3, ![2, 512, 512]⟩ : Shape).Idx => Attention.out X W K V O (i 0) (i 1) (i 2)) (by decide) := by
  have P : Parts m ρ X W K V O :=
    { acts := fun p b r e => by rw [xS_eq, (h p).1]; exact block3 X p b r e
      proj := fun p e j => by rw [wqS_eq, (h p).2.1]
      keys := fun p b k hd d => by rw [kS_eq, (h p).2.2.1]; exact block4 K p b k hd d
      vals := fun p b k hd d => by rw [vS_eq, (h p).2.2.2.1]; exact block4 V p b k hd d
      back := fun p j e => by rw [woS_eq, (h p).2.2.2.2] }
  rw [final_result]
  funext i
  have e := outAt_eq P c (i 0) (i 1) (i 2)
  rw [← eq_ix3 i] at e
  refine e.trans ?_
  conv_rhs => rw [eq_ix3 i]
  exact (block3 (fun i => Attention.out X W K V O (i 0) (i 1) (i 2)) c (i 0) (i 1) (i 2)).symm

end Cert.IdealRun

end
-- ==== Proof.RefValue.lean ====
/-
# What the reference computes

For finite activations, query weights and keys the reference's result is the masked attention of its arguments.
-/
module

public import proofs.«01_k».proof.Proof.Attention
public import proofs.«01_k».proof.Proof.Gen.ReferenceIdeal.Run

@[expose] public section

set_option maxRecDepth 16384

noncomputable section

namespace Cert.RefValue

open Cert.ReferenceIdeal Idealize.ShloMosaic Idealize.ShloMosaic.TcCoe Cert.Attention Cert.Softmax

/-- The reference's result at an index. -/
theorem result (m : (ℓ : Loc nD τ sig) → Buf (Elt Ideal) ℓ) (c : Dev nD)
    (hX : Finite (m ((c.tc : Thread nD τ).loc main_arg0))) (hW : Finite (m ((c.tc : Thread nD τ).loc main_arg1)))
    (hK : Finite (m ((c.tc : Thread nD τ).loc main_arg2))) (b : Fin 2) (g e : Fin 512) :
    Value.res_main_v47 m c (ix3 b g e)
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) b g e := by
  unfold out ctx
  simp only [← shares_eq_once _ _ (fun k => masked_finite hX hW hK b _ g k)]
  have hrow := fold_ori (keep g) g (keep_self g)
  unfold keep at hrow
  have h1 : ∀ a z : EReal, Scalar.select (1#1) a z = a := fun a z => rfl
  pointwise [Value.res_main_v47]
  simp only [hrow, h1, ofBits_bot]
  rfl

end Cert.RefValue

end
-- ==== Proof.lean ====
/-
# The claims

The three frames from the runs of the programs, and the equation of the kernel's result with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.IdealLaunch
public import proofs.«01_k».proof.Proof.WordLaunch
public import proofs.«01_k».proof.Proof.Result
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem

/-- The kernel on words: every fair run ends, with the arguments as at the start and every counter at zero. -/
theorem frame_word : Cert.quiescent_Kernel := fun m ρ _ =>
  (θ_run Cert.Kernel.defs _ _).mono
    (fun _ h => ⟨fun c => ⟨(h.1 c 0).trans (Cert.WordRun.finalA_in m ρ c 0 rfl), (h.1 c 1).trans (Cert.WordRun.finalA_in m ρ c 1 rfl),
      (h.1 c 2).trans (Cert.WordRun.finalA_in m ρ c 2 rfl), (h.1 c 3).trans (Cert.WordRun.finalA_in m ρ c 3 rfl),
      (h.1 c 4).trans (Cert.WordRun.finalA_in m ρ c 4 rfl)⟩, h.2⟩)
    (Cert.WordRun.run_main (F := Bits) m ρ)

/-- The kernel on extended reals: likewise. -/
theorem frame_ideal : Cert.quiescent_KernelIdeal := fun m ρ _ =>
  (θ_run Cert.KernelIdeal.defs _ _).mono
    (fun _ h => ⟨fun c => ⟨(h.1 c 0).trans (Cert.IdealRun.finalA_in m ρ c 0 rfl), (h.1 c 1).trans (Cert.IdealRun.finalA_in m ρ c 1 rfl),
      (h.1 c 2).trans (Cert.IdealRun.finalA_in m ρ c 2 rfl), (h.1 c 3).trans (Cert.IdealRun.finalA_in m ρ c 3 rfl),
      (h.1 c 4).trans (Cert.IdealRun.finalA_in m ρ c 4 rfl)⟩, h.2⟩)
    (Cert.IdealRun.run_main (F := Ideal) m ρ)

/-- The reference: likewise; it has no counters at all. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The precondition's shape facts, of one device's arrays and of the whole ones. -/
theorem whole_facts : Cert.Pre_scores_finite_ReferenceIdeal.Facts := ⟨by decide, by decide, by decide, by decide⟩

attribute [local instance] Cert.IdealRun.finite_facts whole_facts

/-- For finite activations, query weights and keys the devices' results are the parts of the reference's. -/
theorem algebraic : Cert.algebraic_KernelIdeal_ReferenceIdeal_pre_scores_finite_KernelIdeal := by
  intro m ρ m' ρ' hpre hin
  have hX := Cert.IdealRun.whole_acts fun p => by rw [← (hin p).1]; exact (Cert.IdealRun.finite_blocks (hpre p)).1
  have hW : Cert.Attention.Finite (m' (((0 : Dev Cert.ReferenceIdeal.nD).tc : Thread Cert.ReferenceIdeal.nD Cert.ReferenceIdeal.τ).loc
      Cert.ReferenceIdeal.main_arg1)) := by rw [← (hin 0).2.1]; exact (Cert.IdealRun.finite_blocks (hpre 0)).2.1
  have hK := Cert.IdealRun.whole_rows fun p => by rw [← (hin p).2.2.1]; exact (Cert.IdealRun.finite_blocks (hpre p)).2.2
  refine ⟨Cert.ReferenceIdeal.Value.res_out0 m' 0, ?_, ?_⟩
  · refine (θ_run Cert.KernelIdeal.defs _ _).mono
      (fun r h c => ⟨((h.1 c 5).trans (Cert.IdealRun.result_rows m ρ _ _ _ _ _ hin c)).trans ?_,
        (h.1 c 0).trans (Cert.IdealRun.finalA_in m ρ c 0 rfl), (h.1 c 1).trans (Cert.IdealRun.finalA_in m ρ c 1 rfl),
        (h.1 c 2).trans (Cert.IdealRun.finalA_in m ρ c 2 rfl), (h.1 c 3).trans (Cert.IdealRun.finalA_in m ρ c 3 rfl),
        (h.1 c 4).trans (Cert.IdealRun.finalA_in m ρ c 4 rfl)⟩) (Cert.IdealRun.run_main (F := Ideal) m ρ)
    refine congrArg (fun v => Layout.block ⟨3, ![2, 128, 512]⟩ ⟨3, ![2, 512, 512]⟩ 1 4 c v (by decide)) (funext fun i => ?_)
    refine (Cert.RefValue.result m' 0 hX hW hK (i 0) (i 1) (i 2)).symm.trans ?_
    rw [← eq_ix3 i]
  · exact (θ_run Cert.ReferenceIdeal.defs _ _).mono (fun r h => h 0) (Cert.ReferenceIdeal.Value.run (F := Ideal) m' ρ')

theorem claim : Cert.Claim := ⟨Cert.Kernel.Gen.facts, Cert.KernelIdeal.Gen.facts, Cert.ReferenceIdeal.Gen.facts,
  Cert.IdealRun.finite_facts, whole_facts,
  frame_word, frame_ideal, fun m ρ _ => frame_ideal m ρ trivial, frame_reference, fun m ρ _ => frame_reference m ρ trivial,
  trivial, algebraic⟩

end Cert.Proof

end
